-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S16384x200 : Shape := ⟨2, ![16384, 200]⟩
abbrev S4x2 : Shape := ⟨2, ![4, 2]⟩
abbrev S2x2 : Shape := ⟨2, ![2, 2]⟩
abbrev S2 : Shape := ⟨1, ![2]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : IVec S16384x200 32) (main_arg1 : FVec F S4x2 .f32) (main_arg2 : FVec F S2x2 .f32) (main_arg3 : FVec F S2 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 4#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  main_v5
-- ==== Kernel.lean ====
abbrev S16384x200 : Shape := ⟨2, ![16384, 200]⟩
abbrev S4x2 : Shape := ⟨2, ![4, 2]⟩
abbrev S2x2 : Shape := ⟨2, ![2, 2]⟩
abbrev S2 : Shape := ⟨1, ![2]⟩
abbrev S3276800 : Shape := ⟨1, ![3276800]⟩
abbrev S8 : Shape := ⟨1, ![8]⟩
abbrev S4 : Shape := ⟨1, ![4]⟩
abbrev S_ : Shape := ⟨0, ![]⟩
abbrev S16 : Shape := ⟨1, ![16]⟩
abbrev S6553600 : Shape := ⟨1, ![6553600]⟩
abbrev S10240 : Shape := ⟨1, ![10240]⟩
abbrev S20480 : Shape := ⟨1, ![20480]⟩
abbrev S16384x200x2 : Shape := ⟨3, ![16384, 200, 2]⟩

abbrev nBuf : Table → Nat
  | .hbm => 12
  | .local .scVector .vmem => 5
  | _ => 0

abbrev bufTy : (tb : Table) → Fin (nBuf tb) → BufTy
  | .hbm, ⟨0, _⟩ => ⟨S16384x200, .i32⟩
  | .hbm, ⟨1, _⟩ => ⟨S4x2, .f32⟩
  | .hbm, ⟨2, _⟩ => ⟨S2x2, .f32⟩
  | .hbm, ⟨3, _⟩ => ⟨S2, .f32⟩
  | .hbm, ⟨4, _⟩ => ⟨S3276800, .i32⟩
  | .hbm, ⟨5, _⟩ => ⟨S8, .f32⟩
  | .hbm, ⟨6, _⟩ => ⟨S4, .f32⟩
  | .hbm, ⟨7, _⟩ => ⟨S_, .f32⟩
  | .hbm, ⟨8, _⟩ => ⟨S2, .f32⟩
  | .hbm, ⟨9, _⟩ => ⟨S16, .f32⟩
  | .hbm, ⟨10, _⟩ => ⟨S6553600, .f32⟩
  | .hbm, ⟨11, _⟩ => ⟨S16384x200x2, .f32⟩
  | .local .scVector .vmem, ⟨0, _⟩ => ⟨S16, .f32⟩
  | .local .scVector .vmem, ⟨1, _⟩ => ⟨S16, .f32⟩
  | .local .scVector .vmem, ⟨2, _⟩ => ⟨S16, .f32⟩
  | .local .scVector .vmem, ⟨3, _⟩ => ⟨S10240, .i32⟩
  | .local .scVector .vmem, ⟨4, _⟩ => ⟨S20480, .f32⟩
  | _, _ => ⟨S16384x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v0_scv : Ref sig .scVector := ⟨.hbm, 4, rfl⟩
abbrev main_v4_scv : Ref sig .scVector := ⟨.hbm, 9, rfl⟩
abbrev main_v5_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v6 : IVec S16 32) : Prop :=
  (∀ a x, ((![v6] : Fin 1 → IVec S16 32) a x).toNat < S16.size a)
theorem k0_idx1_inb : ∀ (v6 : IVec S16 32) (k0_hw1 : k0_chk1 v6), ∀ a x, ((![v6] : Fin 1 → IVec S16 32) a x).toNat < S16.size a := fun v6 k0_hw1 => k0_hw1

def k0_chk2 (v11 : IVec S16 32) : Prop :=
  (∀ a x, ((![v11] : Fin 1 → IVec S16 32) a x).toNat < S16.size a)
theorem k0_idx2_inb : ∀ (v11 : IVec S16 32) (k0_hw2 : k0_chk2 v11), ∀ a x, ((![v11] : Fin 1 → IVec S16 32) a x).toNat < S16.size a := fun v11 k0_hw2 => k0_hw2

def k0_chk3 (v13 : IVec S16 32) : Prop :=
  (∀ a x, ((![v13] : Fin 1 → IVec S16 32) a x).toNat < S16.size a)
theorem k0_idx3_inb : ∀ (v13 : IVec S16 32) (k0_hw3 : k0_chk3 v13), ∀ a x, ((![v13] : Fin 1 → IVec S16 32) a x).toNat < S16.size a := fun v13 k0_hw3 => k0_hw3

def k0_chk4 (v16 : IVec S16 32) : Prop :=
  (∀ a x, ((![v16] : Fin 1 → IVec S16 32) a x).toNat < S16.size a)
theorem k0_idx4_inb : ∀ (v16 : IVec S16 32) (k0_hw4 : k0_chk4 v16), ∀ a x, ((![v16] : Fin 1 → IVec S16 32) a x).toNat < S16.size a := fun v16 k0_hw4 => k0_hw4

def k0_chk5 (v20 : IVec S16 32) : Prop :=
  (∀ a x, ((![v20] : Fin 1 → IVec S16 32) a x).toNat < S16.size a)
theorem k0_idx5_inb : ∀ (v20 : IVec S16 32) (k0_hw5 : k0_chk5 v20), ∀ a x, ((![v20] : Fin 1 → IVec S16 32) a x).toNat < S16.size a := fun v20 k0_hw5 => k0_hw5

def k0_chk6 (v24 : IVec S16 32) : Prop :=
  (∀ a x, ((![v24] : Fin 1 → IVec S16 32) a x).toNat < S16.size a)
theorem k0_idx6_inb : ∀ (v24 : IVec S16 32) (k0_hw6 : k0_chk6 v24), ∀ a x, ((![v24] : Fin 1 → IVec S16 32) a x).toNat < S16.size a := fun v24 k0_hw6 => k0_hw6

def k0_chk7 (v27 : IVec S16 32) : Prop :=
  (∀ a x, ((![v27] : Fin 1 → IVec S16 32) a x).toNat < S16.size a)
theorem k0_idx7_inb : ∀ (v27 : IVec S16 32) (k0_hw7 : k0_chk7 v27), ∀ a x, ((![v27] : Fin 1 → IVec S16 32) a x).toNat < S16.size a := fun v27 k0_hw7 => k0_hw7

def k0_chk8 (v31 : IVec S16 32) : Prop :=
  (∀ a x, ((![v31] : Fin 1 → IVec S16 32) a x).toNat < S16.size a)
theorem k0_idx8_inb : ∀ (v31 : IVec S16 32) (k0_hw8 : k0_chk8 v31), ∀ a x, ((![v31] : Fin 1 → IVec S16 32) a x).toNat < S16.size a := fun v31 k0_hw8 => k0_hw8
def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v37 : BitVec 32 := Scalar.muli v1 c102400_i32
  let v38 : BitVec 32 := Scalar.addi v37 c0_i32
  ![v38.toNat]
@[reducible] def k0_t1_loop : Scf.Loop 32 :=
  let c0_i32_5 : BitVec 32 := 0#32
  let c640_i32 : BitVec 32 := 640#32
  let v39 : BitVec 32 := Scalar.addi c0_i32_5 c640_i32
  let c1_i32_6 : BitVec 32 := 1#32
  ⟨c0_i32_5, v39, c1_i32_6⟩
def k0_off2 (k0_t1 : Fin k0_t1_loop.trips) : Fin 1 → Nat :=
  let c0_i32_5 : BitVec 32 := 0#32
  let c1_i32_6 : BitVec 32 := 1#32
  let arg10 : BitVec 32 := Scf.iv c0_i32_5 c1_i32_6 k0_t1
  let c16_i32 : BitVec 32 := 16#32
  let v68 : BitVec 32 := Scalar.muli arg10 c16_i32
  let v69 : Index := Scalar.indexCast v68
  ![v69.toNat]

def k0_chk9 (v70 : IVec S16 32) : Prop :=
  (∀ a x, ((![v70] : Fin 1 → IVec S16 32) a x).toNat < S16.size a) ∧
  (∀ a x, ((![v70] : Fin 1 → IVec S16 32) a x).toNat < S16.size a)
theorem k0_idx9_inb : ∀ (v70 : IVec S16 32) (k0_hw9 : k0_chk9 v70), ∀ a x, ((![v70] : Fin 1 → IVec S16 32) a x).toNat < S16.size a := fun v70 k0_hw9 => k0_hw9.1
theorem k0_idx10_inb : ∀ (v70 : IVec S16 32) (k0_hw9 : k0_chk9 v70), ∀ a x, ((![v70] : Fin 1 → IVec S16 32) a x).toNat < S16.size a := fun v70 k0_hw9 => k0_hw9.2

def k0_chk10 (v75 : IVec S16 32) : Prop :=
  (∀ a x, ((![v75] : Fin 1 → IVec S16 32) a x).toNat < S20480.size a)
theorem k0_idx11_inb : ∀ (v75 : IVec S16 32) (k0_hw10 : k0_chk10 v75), ∀ a x, ((![v75] : Fin 1 → IVec S16 32) a x).toNat < S20480.size a := fun v75 k0_hw10 => k0_hw10

def k0_chk11 (v77 : IVec S16 32) : Prop :=
  (∀ a x, ((![v77] : Fin 1 → IVec S16 32) a x).toNat < S20480.size a)
theorem k0_idx12_inb : ∀ (v77 : IVec S16 32) (k0_hw11 : k0_chk11 v77), ∀ a x, ((![v77] : Fin 1 → IVec S16 32) a x).toNat < S20480.size a := fun v77 k0_hw11 => k0_hw11
def k0_off3 (i : grid0.Coords) (c0_i32 : BitVec 32) : Fin 1 → Nat :=
  let c2_i32_8 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v37 : BitVec 32 := Scalar.muli v1 c102400_i32
  let v38 : BitVec 32 := Scalar.addi v37 c0_i32
  let v40 : BitVec 32 := Scalar.muli c2_i32_8 v38
  ![v40.toNat]
@[reducible] def k0_t2_loop : Scf.Loop 32 :=
  let c0_i32_10 : BitVec 32 := 0#32
  let c640_i32_11 : BitVec 32 := 640#32
  let v42 : BitVec 32 := Scalar.addi c0_i32_10 c640_i32_11
  let c1_i32_12 : BitVec 32 := 1#32
  ⟨c0_i32_10, v42, c1_i32_12⟩
def k0_off4 (k0_t2 : Fin k0_t2_loop.trips) : Fin 1 → Nat :=
  let c0_i32_10 : BitVec 32 := 0#32
  let c1_i32_12 : BitVec 32 := 1#32
  let arg10 : BitVec 32 := Scf.iv c0_i32_10 c1_i32_12 k0_t2
  let c16_i32 : BitVec 32 := 16#32
  let v68 : BitVec 32 := Scalar.muli arg10 c16_i32
  let v69 : Index := Scalar.indexCast v68
  ![v69.toNat]

def k0_chk12 (v70 : IVec S16 32) : Prop :=
  (∀ a x, ((![v70] : Fin 1 → IVec S16 32) a x).toNat < S16.size a) ∧
  (∀ a x, ((![v70] : Fin 1 → IVec S16 32) a x).toNat < S16.size a)
theorem k0_idx13_inb : ∀ (v70 : IVec S16 32) (k0_hw12 : k0_chk12 v70), ∀ a x, ((![v70] : Fin 1 → IVec S16 32) a x).toNat < S16.size a := fun v70 k0_hw12 => k0_hw12.1
theorem k0_idx14_inb : ∀ (v70 : IVec S16 32) (k0_hw12 : k0_chk12 v70), ∀ a x, ((![v70] : Fin 1 → IVec S16 32) a x).toNat < S16.size a := fun v70 k0_hw12 => k0_hw12.2

def k0_chk13 (v75 : IVec S16 32) : Prop :=
  (∀ a x, ((![v75] : Fin 1 → IVec S16 32) a x).toNat < S20480.size a)
theorem k0_idx15_inb : ∀ (v75 : IVec S16 32) (k0_hw13 : k0_chk13 v75), ∀ a x, ((![v75] : Fin 1 → IVec S16 32) a x).toNat < S20480.size a := fun v75 k0_hw13 => k0_hw13

def k0_chk14 (v77 : IVec S16 32) : Prop :=
  (∀ a x, ((![v77] : Fin 1 → IVec S16 32) a x).toNat < S20480.size a)
theorem k0_idx16_inb : ∀ (v77 : IVec S16 32) (k0_hw14 : k0_chk14 v77), ∀ a x, ((![v77] : Fin 1 → IVec S16 32) a x).toNat < S20480.size a := fun v77 k0_hw14 => k0_hw14
@[reducible] def k0_t3_loop : Scf.Loop 32 :=
  let c0_i32_16 : BitVec 32 := 0#32
  let c640_i32_17 : BitVec 32 := 640#32
  let v45 : BitVec 32 := Scalar.addi c0_i32_16 c640_i32_17
  let c1_i32_18 : BitVec 32 := 1#32
  ⟨c0_i32_16, v45, c1_i32_18⟩
def k0_off5 (k0_t3 : Fin k0_t3_loop.trips) : Fin 1 → Nat :=
  let c0_i32_16 : BitVec 32 := 0#32
  let c1_i32_18 : BitVec 32 := 1#32
  let arg10 : BitVec 32 := Scf.iv c0_i32_16 c1_i32_18 k0_t3
  let c16_i32 : BitVec 32 := 16#32
  let v68 : BitVec 32 := Scalar.muli arg10 c16_i32
  let v69 : Index := Scalar.indexCast v68
  ![v69.toNat]

def k0_chk15 (v70 : IVec S16 32) : Prop :=
  (∀ a x, ((![v70] : Fin 1 → IVec S16 32) a x).toNat < S16.size a) ∧
  (∀ a x, ((![v70] : Fin 1 → IVec S16 32) a x).toNat < S16.size a)
theorem k0_idx17_inb : ∀ (v70 : IVec S16 32) (k0_hw15 : k0_chk15 v70), ∀ a x, ((![v70] : Fin 1 → IVec S16 32) a x).toNat < S16.size a := fun v70 k0_hw15 => k0_hw15.1
theorem k0_idx18_inb : ∀ (v70 : IVec S16 32) (k0_hw15 : k0_chk15 v70), ∀ a x, ((![v70] : Fin 1 → IVec S16 32) a x).toNat < S16.size a := fun v70 k0_hw15 => k0_hw15.2

def k0_chk16 (v75 : IVec S16 32) : Prop :=
  (∀ a x, ((![v75] : Fin 1 → IVec S16 32) a x).toNat < S20480.size a)
theorem k0_idx19_inb : ∀ (v75 : IVec S16 32) (k0_hw16 : k0_chk16 v75), ∀ a x, ((![v75] : Fin 1 → IVec S16 32) a x).toNat < S20480.size a := fun v75 k0_hw16 => k0_hw16

def k0_chk17 (v77 : IVec S16 32) : Prop :=
  (∀ a x, ((![v77] : Fin 1 → IVec S16 32) a x).toNat < S20480.size a)
theorem k0_idx20_inb : ∀ (v77 : IVec S16 32) (k0_hw17 : k0_chk17 v77), ∀ a x, ((![v77] : Fin 1 → IVec S16 32) a x).toNat < S20480.size a := fun v77 k0_hw17 => k0_hw17
@[reducible] def k0_t4_loop : Scf.Loop 32 :=
  let c0_i32_22 : BitVec 32 := 0#32
  let c640_i32_23 : BitVec 32 := 640#32
  let v48 : BitVec 32 := Scalar.addi c0_i32_22 c640_i32_23
  let c1_i32_24 : BitVec 32 := 1#32
  ⟨c0_i32_22, v48, c1_i32_24⟩
def k0_off6 (k0_t4 : Fin k0_t4_loop.trips) : Fin 1 → Nat :=
  let c0_i32_22 : BitVec 32 := 0#32
  let c1_i32_24 : BitVec 32 := 1#32
  let arg10 : BitVec 32 := Scf.iv c0_i32_22 c1_i32_24 k0_t4
  let c16_i32 : BitVec 32 := 16#32
  let v68 : BitVec 32 := Scalar.muli arg10 c16_i32
  let v69 : Index := Scalar.indexCast v68
  ![v69.toNat]

def k0_chk18 (v70 : IVec S16 32) : Prop :=
  (∀ a x, ((![v70] : Fin 1 → IVec S16 32) a x).toNat < S16.size a) ∧
  (∀ a x, ((![v70] : Fin 1 → IVec S16 32) a x).toNat < S16.size a)
theorem k0_idx21_inb : ∀ (v70 : IVec S16 32) (k0_hw18 : k0_chk18 v70), ∀ a x, ((![v70] : Fin 1 → IVec S16 32) a x).toNat < S16.size a := fun v70 k0_hw18 => k0_hw18.1
theorem k0_idx22_inb : ∀ (v70 : IVec S16 32) (k0_hw18 : k0_chk18 v70), ∀ a x, ((![v70] : Fin 1 → IVec S16 32) a x).toNat < S16.size a := fun v70 k0_hw18 => k0_hw18.2

def k0_chk19 (v75 : IVec S16 32) : Prop :=
  (∀ a x, ((![v75] : Fin 1 → IVec S16 32) a x).toNat < S20480.size a)
theorem k0_idx23_inb : ∀ (v75 : IVec S16 32) (k0_hw19 : k0_chk19 v75), ∀ a x, ((![v75] : Fin 1 → IVec S16 32) a x).toNat < S20480.size a := fun v75 k0_hw19 => k0_hw19

def k0_chk20 (v77 : IVec S16 32) : Prop :=
  (∀ a x, ((![v77] : Fin 1 → IVec S16 32) a x).toNat < S20480.size a)
theorem k0_idx24_inb : ∀ (v77 : IVec S16 32) (k0_hw20 : k0_chk20 v77), ∀ a x, ((![v77] : Fin 1 → IVec S16 32) a x).toNat < S20480.size a := fun v77 k0_hw20 => k0_hw20
@[reducible] def k0_t5_loop : Scf.Loop 32 :=
  let c0_i32_28 : BitVec 32 := 0#32
  let c640_i32_29 : BitVec 32 := 640#32
  let v51 : BitVec 32 := Scalar.addi c0_i32_28 c640_i32_29
  let c1_i32_30 : BitVec 32 := 1#32
  ⟨c0_i32_28, v51, c1_i32_30⟩
def k0_off7 (k0_t5 : Fin k0_t5_loop.trips) : Fin 1 → Nat :=
  let c0_i32_28 : BitVec 32 := 0#32
  let c1_i32_30 : BitVec 32 := 1#32
  let arg10 : BitVec 32 := Scf.iv c0_i32_28 c1_i32_30 k0_t5
  let c16_i32 : BitVec 32 := 16#32
  let v68 : BitVec 32 := Scalar.muli arg10 c16_i32
  let v69 : Index := Scalar.indexCast v68
  ![v69.toNat]

def k0_chk21 (v70 : IVec S16 32) : Prop :=
  (∀ a x, ((![v70] : Fin 1 → IVec S16 32) a x).toNat < S16.size a) ∧
  (∀ a x, ((![v70] : Fin 1 → IVec S16 32) a x).toNat < S16.size a)
theorem k0_idx25_inb : ∀ (v70 : IVec S16 32) (k0_hw21 : k0_chk21 v70), ∀ a x, ((![v70] : Fin 1 → IVec S16 32) a x).toNat < S16.size a := fun v70 k0_hw21 => k0_hw21.1
theorem k0_idx26_inb : ∀ (v70 : IVec S16 32) (k0_hw21 : k0_chk21 v70), ∀ a x, ((![v70] : Fin 1 → IVec S16 32) a x).toNat < S16.size a := fun v70 k0_hw21 => k0_hw21.2

def k0_chk22 (v75 : IVec S16 32) : Prop :=
  (∀ a x, ((![v75] : Fin 1 → IVec S16 32) a x).toNat < S20480.size a)
theorem k0_idx27_inb : ∀ (v75 : IVec S16 32) (k0_hw22 : k0_chk22 v75), ∀ a x, ((![v75] : Fin 1 → IVec S16 32) a x).toNat < S20480.size a := fun v75 k0_hw22 => k0_hw22

def k0_chk23 (v77 : IVec S16 32) : Prop :=
  (∀ a x, ((![v77] : Fin 1 → IVec S16 32) a x).toNat < S20480.size a)
theorem k0_idx28_inb : ∀ (v77 : IVec S16 32) (k0_hw23 : k0_chk23 v77), ∀ a x, ((![v77] : Fin 1 → IVec S16 32) a x).toNat < S20480.size a := fun v77 k0_hw23 => k0_hw23
@[reducible] def k0_t6_loop : Scf.Loop 32 :=
  let c0_i32_34 : BitVec 32 := 0#32
  let c640_i32_35 : BitVec 32 := 640#32
  let v54 : BitVec 32 := Scalar.addi c0_i32_34 c640_i32_35
  let c1_i32_36 : BitVec 32 := 1#32
  ⟨c0_i32_34, v54, c1_i32_36⟩
def k0_off8 (k0_t6 : Fin k0_t6_loop.trips) : Fin 1 → Nat :=
  let c0_i32_34 : BitVec 32 := 0#32
  let c1_i32_36 : BitVec 32 := 1#32
  let arg10 : BitVec 32 := Scf.iv c0_i32_34 c1_i32_36 k0_t6
  let c16_i32 : BitVec 32 := 16#32
  let v68 : BitVec 32 := Scalar.muli arg10 c16_i32
  let v69 : Index := Scalar.indexCast v68
  ![v69.toNat]

def k0_chk24 (v70 : IVec S16 32) : Prop :=
  (∀ a x, ((![v70] : Fin 1 → IVec S16 32) a x).toNat < S16.size a) ∧
  (∀ a x, ((![v70] : Fin 1 → IVec S16 32) a x).toNat < S16.size a)
theorem k0_idx29_inb : ∀ (v70 : IVec S16 32) (k0_hw24 : k0_chk24 v70), ∀ a x, ((![v70] : Fin 1 → IVec S16 32) a x).toNat < S16.size a := fun v70 k0_hw24 => k0_hw24.1
theorem k0_idx30_inb : ∀ (v70 : IVec S16 32) (k0_hw24 : k0_chk24 v70), ∀ a x, ((![v70] : Fin 1 → IVec S16 32) a x).toNat < S16.size a := fun v70 k0_hw24 => k0_hw24.2

def k0_chk25 (v75 : IVec S16 32) : Prop :=
  (∀ a x, ((![v75] : Fin 1 → IVec S16 32) a x).toNat < S20480.size a)
theorem k0_idx31_inb : ∀ (v75 : IVec S16 32) (k0_hw25 : k0_chk25 v75), ∀ a x, ((![v75] : Fin 1 → IVec S16 32) a x).toNat < S20480.size a := fun v75 k0_hw25 => k0_hw25

def k0_chk26 (v77 : IVec S16 32) : Prop :=
  (∀ a x, ((![v77] : Fin 1 → IVec S16 32) a x).toNat < S20480.size a)
theorem k0_idx32_inb : ∀ (v77 : IVec S16 32) (k0_hw26 : k0_chk26 v77), ∀ a x, ((![v77] : Fin 1 → IVec S16 32) a x).toNat < S20480.size a := fun v77 k0_hw26 => k0_hw26
@[reducible] def k0_t7_loop : Scf.Loop 32 :=
  let c0_i32_40 : BitVec 32 := 0#32
  let c640_i32_41 : BitVec 32 := 640#32
  let v57 : BitVec 32 := Scalar.addi c0_i32_40 c640_i32_41
  let c1_i32_42 : BitVec 32 := 1#32
  ⟨c0_i32_40, v57, c1_i32_42⟩
def k0_off9 (k0_t7 : Fin k0_t7_loop.trips) : Fin 1 → Nat :=
  let c0_i32_40 : BitVec 32 := 0#32
  let c1_i32_42 : BitVec 32 := 1#32
  let arg10 : BitVec 32 := Scf.iv c0_i32_40 c1_i32_42 k0_t7
  let c16_i32 : BitVec 32 := 16#32
  let v68 : BitVec 32 := Scalar.muli arg10 c16_i32
  let v69 : Index := Scalar.indexCast v68
  ![v69.toNat]

def k0_chk27 (v70 : IVec S16 32) : Prop :=
  (∀ a x, ((![v70] : Fin 1 → IVec S16 32) a x).toNat < S16.size a) ∧
  (∀ a x, ((![v70] : Fin 1 → IVec S16 32) a x).toNat < S16.size a)
theorem k0_idx33_inb : ∀ (v70 : IVec S16 32) (k0_hw27 : k0_chk27 v70), ∀ a x, ((![v70] : Fin 1 → IVec S16 32) a x).toNat < S16.size a := fun v70 k0_hw27 => k0_hw27.1
theorem k0_idx34_inb : ∀ (v70 : IVec S16 32) (k0_hw27 : k0_chk27 v70), ∀ a x, ((![v70] : Fin 1 → IVec S16 32) a x).toNat < S16.size a := fun v70 k0_hw27 => k0_hw27.2

def k0_chk28 (v75 : IVec S16 32) : Prop :=
  (∀ a x, ((![v75] : Fin 1 → IVec S16 32) a x).toNat < S20480.size a)
theorem k0_idx35_inb : ∀ (v75 : IVec S16 32) (k0_hw28 : k0_chk28 v75), ∀ a x, ((![v75] : Fin 1 → IVec S16 32) a x).toNat < S20480.size a := fun v75 k0_hw28 => k0_hw28

def k0_chk29 (v77 : IVec S16 32) : Prop :=
  (∀ a x, ((![v77] : Fin 1 → IVec S16 32) a x).toNat < S20480.size a)
theorem k0_idx36_inb : ∀ (v77 : IVec S16 32) (k0_hw29 : k0_chk29 v77), ∀ a x, ((![v77] : Fin 1 → IVec S16 32) a x).toNat < S20480.size a := fun v77 k0_hw29 => k0_hw29
@[reducible] def k0_t8_loop : Scf.Loop 32 :=
  let c0_i32_46 : BitVec 32 := 0#32
  let c640_i32_47 : BitVec 32 := 640#32
  let v60 : BitVec 32 := Scalar.addi c0_i32_46 c640_i32_47
  let c1_i32_48 : BitVec 32 := 1#32
  ⟨c0_i32_46, v60, c1_i32_48⟩
def k0_off10 (k0_t8 : Fin k0_t8_loop.trips) : Fin 1 → Nat :=
  let c0_i32_46 : BitVec 32 := 0#32
  let c1_i32_48 : BitVec 32 := 1#32
  let arg10 : BitVec 32 := Scf.iv c0_i32_46 c1_i32_48 k0_t8
  let c16_i32 : BitVec 32 := 16#32
  let v68 : BitVec 32 := Scalar.muli arg10 c16_i32
  let v69 : Index := Scalar.indexCast v68
  ![v69.toNat]

def k0_chk30 (v70 : IVec S16 32) : Prop :=
  (∀ a x, ((![v70] : Fin 1 → IVec S16 32) a x).toNat < S16.size a) ∧
  (∀ a x, ((![v70] : Fin 1 → IVec S16 32) a x).toNat < S16.size a)
theorem k0_idx37_inb : ∀ (v70 : IVec S16 32) (k0_hw30 : k0_chk30 v70), ∀ a x, ((![v70] : Fin 1 → IVec S16 32) a x).toNat < S16.size a := fun v70 k0_hw30 => k0_hw30.1
theorem k0_idx38_inb : ∀ (v70 : IVec S16 32) (k0_hw30 : k0_chk30 v70), ∀ a x, ((![v70] : Fin 1 → IVec S16 32) a x).toNat < S16.size a := fun v70 k0_hw30 => k0_hw30.2

def k0_chk31 (v75 : IVec S16 32) : Prop :=
  (∀ a x, ((![v75] : Fin 1 → IVec S16 32) a x).toNat < S20480.size a)
theorem k0_idx39_inb : ∀ (v75 : IVec S16 32) (k0_hw31 : k0_chk31 v75), ∀ a x, ((![v75] : Fin 1 → IVec S16 32) a x).toNat < S20480.size a := fun v75 k0_hw31 => k0_hw31

def k0_chk32 (v77 : IVec S16 32) : Prop :=
  (∀ a x, ((![v77] : Fin 1 → IVec S16 32) a x).toNat < S20480.size a)
theorem k0_idx40_inb : ∀ (v77 : IVec S16 32) (k0_hw32 : k0_chk32 v77), ∀ a x, ((![v77] : Fin 1 → IVec S16 32) a x).toNat < S20480.size a := fun v77 k0_hw32 => k0_hw32
@[reducible] def k0_t9_loop : Scf.Loop 32 :=
  let c0_i32_52 : BitVec 32 := 0#32
  let c640_i32_53 : BitVec 32 := 640#32
  let v63 : BitVec 32 := Scalar.addi c0_i32_52 c640_i32_53
  let c1_i32_54 : BitVec 32 := 1#32
  ⟨c0_i32_52, v63, c1_i32_54⟩
def k0_off11 (k0_t9 : Fin k0_t9_loop.trips) : Fin 1 → Nat :=
  let c0_i32_52 : BitVec 32 := 0#32
  let c1_i32_54 : BitVec 32 := 1#32
  let arg10 : BitVec 32 := Scf.iv c0_i32_52 c1_i32_54 k0_t9
  let c16_i32 : BitVec 32 := 16#32
  let v68 : BitVec 32 := Scalar.muli arg10 c16_i32
  let v69 : Index := Scalar.indexCast v68
  ![v69.toNat]

def k0_chk33 (v70 : IVec S16 32) : Prop :=
  (∀ a x, ((![v70] : Fin 1 → IVec S16 32) a x).toNat < S16.size a) ∧
  (∀ a x, ((![v70] : Fin 1 → IVec S16 32) a x).toNat < S16.size a)
theorem k0_idx41_inb : ∀ (v70 : IVec S16 32) (k0_hw33 : k0_chk33 v70), ∀ a x, ((![v70] : Fin 1 → IVec S16 32) a x).toNat < S16.size a := fun v70 k0_hw33 => k0_hw33.1
theorem k0_idx42_inb : ∀ (v70 : IVec S16 32) (k0_hw33 : k0_chk33 v70), ∀ a x, ((![v70] : Fin 1 → IVec S16 32) a x).toNat < S16.size a := fun v70 k0_hw33 => k0_hw33.2

def k0_chk34 (v75 : IVec S16 32) : Prop :=
  (∀ a x, ((![v75] : Fin 1 → IVec S16 32) a x).toNat < S20480.size a)
theorem k0_idx43_inb : ∀ (v75 : IVec S16 32) (k0_hw34 : k0_chk34 v75), ∀ a x, ((![v75] : Fin 1 → IVec S16 32) a x).toNat < S20480.size a := fun v75 k0_hw34 => k0_hw34

def k0_chk35 (v77 : IVec S16 32) : Prop :=
  (∀ a x, ((![v77] : Fin 1 → IVec S16 32) a x).toNat < S20480.size a)
theorem k0_idx44_inb : ∀ (v77 : IVec S16 32) (k0_hw35 : k0_chk35 v77), ∀ a x, ((![v77] : Fin 1 → IVec S16 32) a x).toNat < S20480.size a := fun v77 k0_hw35 => k0_hw35
@[reducible] def k0_t10_loop : Scf.Loop 32 :=
  let c0_i32_58 : BitVec 32 := 0#32
  let c640_i32_59 : BitVec 32 := 640#32
  let v66 : BitVec 32 := Scalar.addi c0_i32_58 c640_i32_59
  let c1_i32_60 : BitVec 32 := 1#32
  ⟨c0_i32_58, v66, c1_i32_60⟩
def k0_off12 (k0_t10 : Fin k0_t10_loop.trips) : Fin 1 → Nat :=
  let c0_i32_58 : BitVec 32 := 0#32
  let c1_i32_60 : BitVec 32 := 1#32
  let arg10 : BitVec 32 := Scf.iv c0_i32_58 c1_i32_60 k0_t10
  let c16_i32 : BitVec 32 := 16#32
  let v68 : BitVec 32 := Scalar.muli arg10 c16_i32
  let v69 : Index := Scalar.indexCast v68
  ![v69.toNat]

def k0_chk36 (v70 : IVec S16 32) : Prop :=
  (∀ a x, ((![v70] : Fin 1 → IVec S16 32) a x).toNat < S16.size a) ∧
  (∀ a x, ((![v70] : Fin 1 → IVec S16 32) a x).toNat < S16.size a)
theorem k0_idx45_inb : ∀ (v70 : IVec S16 32) (k0_hw36 : k0_chk36 v70), ∀ a x, ((![v70] : Fin 1 → IVec S16 32) a x).toNat < S16.size a := fun v70 k0_hw36 => k0_hw36.1
theorem k0_idx46_inb : ∀ (v70 : IVec S16 32) (k0_hw36 : k0_chk36 v70), ∀ a x, ((![v70] : Fin 1 → IVec S16 32) a x).toNat < S16.size a := fun v70 k0_hw36 => k0_hw36.2

def k0_chk37 (v75 : IVec S16 32) : Prop :=
  (∀ a x, ((![v75] : Fin 1 → IVec S16 32) a x).toNat < S20480.size a)
theorem k0_idx47_inb : ∀ (v75 : IVec S16 32) (k0_hw37 : k0_chk37 v75), ∀ a x, ((![v75] : Fin 1 → IVec S16 32) a x).toNat < S20480.size a := fun v75 k0_hw37 => k0_hw37

def k0_chk38 (v77 : IVec S16 32) : Prop :=
  (∀ a x, ((![v77] : Fin 1 → IVec S16 32) a x).toNat < S20480.size a)
theorem k0_idx48_inb : ∀ (v77 : IVec S16 32) (k0_hw38 : k0_chk38 v77), ∀ a x, ((![v77] : Fin 1 → IVec S16 32) a x).toNat < S20480.size a := fun v77 k0_hw38 => k0_hw38
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S4x2 : Shape := ⟨2, ![4, 2]⟩
abbrev S2x2 : Shape := ⟨2, ![2, 2]⟩
abbrev S2 : Shape := ⟨1, ![2]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x2 : Shape := ⟨3, ![16384, 200, 2]⟩
abbrev S1x1x2 : Shape := ⟨3, ![1, 1, 2]⟩

abbrev nBuf : Space → Nat
  | .hbm => 32
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S4x2, .f32⟩
  | .hbm, ⟨2, _⟩ => ⟨S2x2, .f32⟩
  | .hbm, ⟨3, _⟩ => ⟨S2, .f32⟩
  | .hbm, ⟨4, _⟩ => ⟨S_, .i32⟩
  | .hbm, ⟨5, _⟩ => ⟨S16384x200, .i32⟩
  | .hbm, ⟨6, _⟩ => ⟨S16384x200, .i1⟩
  | .hbm, ⟨7, _⟩ => ⟨S_, .i32⟩
  | .hbm, ⟨8, _⟩ => ⟨S16384x200, .i32⟩
  | .hbm, ⟨9, _⟩ => ⟨S16384x200, .i32⟩
  | .hbm, ⟨10, _⟩ => ⟨S16384x200, .i32⟩
  | .hbm, ⟨11, _⟩ => ⟨S16384x200x1, .i32⟩
  | .hbm, ⟨12, _⟩ => ⟨S1, .i32⟩
  | .hbm, ⟨13, _⟩ => ⟨S_, .i32⟩
  | .hbm, ⟨14, _⟩ => ⟨S16384x200x1, .i32⟩
  | .hbm, ⟨15, _⟩ => ⟨S16384x200x1, .i1⟩
  | .hbm, ⟨16, _⟩ => ⟨S1x1x1, .i32⟩
  | .hbm, ⟨17, _⟩ => ⟨S16384x200x1, .i32⟩
  | .hbm, ⟨18, _⟩ => ⟨S16384x200x1, .i1⟩
  | .hbm, ⟨19, _⟩ => ⟨S16384x200x1, .i1⟩
  | .hbm, ⟨20, _⟩ => ⟨S_, .i1⟩
  | .hbm, ⟨21, _⟩ => ⟨S16384x200, .i1⟩
  | .hbm, ⟨22, _⟩ => ⟨S16384x200x2, .f32⟩
  | .hbm, ⟨23, _⟩ => ⟨S16384x200x2, .i1⟩
  | .hbm, ⟨24, _⟩ => ⟨S_, .f32⟩
  | .hbm, ⟨25, _⟩ => ⟨S16384x200x2, .f32⟩
  | .hbm, ⟨26, _⟩ => ⟨S16384x200x2, .f32⟩
  | .hbm, ⟨27, _⟩ => ⟨S2x2, .f32⟩
  | .hbm, ⟨28, _⟩ => ⟨S16384x200x2, .f32⟩
  | .hbm, ⟨29, _⟩ => ⟨S1x1x2, .f32⟩
  | .hbm, ⟨30, _⟩ => ⟨S16384x200x2, .f32⟩
  | .hbm, ⟨31, _⟩ => ⟨S16384x200x2, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩

abbrev nD : Nat := 1
abbrev τ : Topo := Topo.v7x

variable {F : FTy → Type} [FloatOps F]
-- ==== Proof.Lookup.lean ====
/-
  What one looked-up entry, one interleaved array and one trip of the inner loop mean, over plain functions:

  * `entry T w` is the entry of the sixteen-lane table `T` that the word `w` names;
  * `interleave h T₀ T₁ x` is the array twice as long as the index array `x` whose even positions hold entries of `T₀` and
    whose odd positions hold entries of `T₁`, position `j` looking up index `j / 2`;
  * a scatter at lanes' distinct positions writes each lane at its own position and leaves the rest (`scatter_hit`,
    `scatter_miss`), so two scatters at `32 t + 2 l` and `32 t + 2 l + 1` extend an interleaved prefix by 32 (`trip_extends`).
-/
module

public import Idealize.ShloMosaic.PureOps
public import Idealize.ShloMosaic.Lib.SparseCore.Ops

@[expose] public section

noncomputable section

namespace Cert.Proof.Lookup

open Idealize.ShloMosaic

/-- The shape of a list of `n` elements. -/
abbrev Vec1 (n : ℕ) : Shape := ⟨1, ![n]⟩

/-- Position `k` of a list of `n` elements. -/
abbrev at1 {n : ℕ} (k : ℕ) (h : k < n) : (Vec1 n).Idx := Shape.ofLane (d := ![n]) ⟨k, h⟩

/-- Two positions of a list with the same number are the same. -/
theorem ext1 {n : ℕ} {i j : (Vec1 n).Idx} (h : (i 0).val = (j 0).val) : i = j := by
  funext a
  obtain rfl : a = 0 := Fin.eq_zero a
  exact Fin.ext h

/-- The lane of a sixteen-lane table that a word names. -/
abbrev lane (w : BitVec 32) : (Vec1 16).Idx := at1 (w.toNat % 16) (Nat.mod_lt _ (by decide))

/-- The entry of a sixteen-lane table that a word names. -/
def entry {α : Type} (T : (Vec1 16).Idx → α) (w : BitVec 32) : α := T (lane w)

/-- Even positions from one table, odd positions from the other, each looking up the index at half its position. -/
def interleave {α : Type} {N M : ℕ} (h : M = 2 * N) (T₀ T₁ : (Vec1 16).Idx → α) (x : (Vec1 N).Idx → BitVec 32) : (Vec1 M).Idx → α :=
  fun j => entry (if (j 0).val % 2 = 0 then T₀ else T₁)
    (x (at1 ((j 0).val / 2) (by have hj : (j 0).val < M := (j 0).isLt; omega)))

variable {F : FTy → Type} [FloatOps F]

section Scatter

variable {s : Shape} {e : EltTy} {d : Fin 1 → ℕ} {idxs : Fin s.rank → IVec ⟨1, d⟩ 32} (h : ∀ a x, (idxs a x).toNat < s.size a)

/-- A list of writes none of which names `j` leaves `j` alone. -/
theorem fold_miss {β : Type} (v : β → Elt F e) (named : β → s.Idx → Prop) [∀ k j, Decidable (named k j)] (j : s.Idx) :
    ∀ (l : List β) (f : s.Idx → Elt F e), (∀ k ∈ l, ¬named k j) →
      l.foldl (fun g k => fun j => if named k j then v k else g j) f j = f j := by
  intro l
  induction l with
  | nil => intro f _; rfl
  | cons k l ih =>
    intro f hl
    rw [List.foldl_cons, ih _ fun k' hk' => hl k' (List.mem_cons_of_mem _ hk')]
    exact if_neg (hl k List.mem_cons_self)

/-- A list of writes of which those naming `j` all write the same word, and one does name it, leaves that word at `j`. -/
theorem fold_hit {β : Type} (v : β → Elt F e) (named : β → s.Idx → Prop) [∀ k j, Decidable (named k j)] (j : s.Idx) (w : Elt F e) :
    ∀ (l : List β) (f : s.Idx → Elt F e), (∀ k ∈ l, named k j → v k = w) → (∃ k ∈ l, named k j) →
      l.foldl (fun g k => fun j => if named k j then v k else g j) f j = w := by
  intro l
  induction l with
  | nil => rintro f _ ⟨k, hk, _⟩; exact absurd hk List.not_mem_nil
  | cons k l ih =>
    rintro f hv ⟨k₁, hk₁, hn₁⟩
    rw [List.foldl_cons]
    by_cases hl : ∃ k ∈ l, named k j
    · exact ih _ (fun k' hk' => hv k' (List.mem_cons_of_mem _ hk')) hl
    · rw [fold_miss v named j l _ fun k' hk' hn => hl ⟨k', hk', hn⟩]
      have hk : named k j := by
        rcases List.mem_cons.mp hk₁ with rfl | hm
        · exact hn₁
        · exact absurd ⟨k₁, hm, hn₁⟩ hl
      rw [if_pos hk]
      exact hv k List.mem_cons_self hk

/-- An unmasked scatter as a list of writes, lane after lane. -/
theorem scatter_eq (f : Vec F s e) (v : Vec F ⟨1, d⟩ e) :
    storeIdx f idxs v (fun _ => 1#1) false h
      = (List.finRange (d 0)).foldl (fun g k => fun j => if (∀ a, (j a).val = (idxAt idxs h (Shape.ofLane k) a).val) then v (Shape.ofLane k) else g j) f := rfl

/-- An unmasked scatter leaves a place no lane names. -/
theorem scatter_miss (f : Vec F s e) (v : Vec F ⟨1, d⟩ e) (j : s.Idx)
    (hj : ∀ k : Fin (d 0), ¬∀ a, (j a).val = (idxs a (Shape.ofLane k)).toNat) :
    storeIdx f idxs v (fun _ => 1#1) false h j = f j := by
  rw [scatter_eq]
  exact fold_miss _ (fun k (j : s.Idx) => ∀ a, (j a).val = (idxAt idxs h (Shape.ofLane k) a).val) j _ f fun k _ => hj k

/-- An unmasked scatter writes lane `k` at the place that lane `k` alone names. -/
theorem scatter_hit (f : Vec F s e) (v : Vec F ⟨1, d⟩ e) (j : s.Idx) (k : Fin (d 0))
    (hk : ∀ a, (j a).val = (idxs a (Shape.ofLane k)).toNat)
    (huniq : ∀ k' : Fin (d 0), (∀ a, (j a).val = (idxs a (Shape.ofLane k')).toNat) → k' = k) :
    storeIdx f idxs v (fun _ => 1#1) false h j = v (Shape.ofLane k) := by
  rw [scatter_eq]
  exact fold_hit (fun k => v (Shape.ofLane k)) (fun k (j : s.Idx) => ∀ a, (j a).val = (idxAt idxs h (Shape.ofLane k) a).val) j _ _ f
    (fun k' _ hk' => by rw [huniq k' hk']) ⟨k, List.mem_finRange k, hk⟩

end Scatter

/-- One trip: where the first `32 t` positions of the buffer are those of the interleaved array, and the sixteen loaded
    words are indices `16 t, …, 16 t + 15`, the two scatters leave the first `32 (t + 1)` positions those of the array. -/
theorem trip_extends {N M : ℕ} (hM : M = 2 * N) (T₀ T₁ : FVec F (Vec1 16) .f32) (x : (Vec1 N).Idx → BitVec 32) (t : ℕ) (ht : 16 * t + 16 ≤ N)
    (f : FVec F (Vec1 M) .f32) (hf : ∀ j, (j 0).val < 32 * t → f j = interleave hM T₀ T₁ x j)
    (v : IVec (Vec1 16) 32) (hv : ∀ l : Fin 16, v (Shape.ofLane l) = x (at1 (16 * t + l.val) (by omega)))
    (hin : ∀ a y, ((![v] : Fin 1 → IVec (Vec1 16) 32) a y).toNat < (Vec1 16).size a)
    (p₀ p₁ : IVec (Vec1 16) 32) (hp₀ : ∀ l : Fin 16, (p₀ (Shape.ofLane l)).toNat = 32 * t + 2 * l.val)
    (hp₁ : ∀ l : Fin 16, (p₁ (Shape.ofLane l)).toNat = 32 * t + 2 * l.val + 1)
    (h₀ : ∀ a y, ((![p₀] : Fin 1 → IVec (Vec1 16) 32) a y).toNat < (Vec1 M).size a)
    (h₁ : ∀ a y, ((![p₁] : Fin 1 → IVec (Vec1 16) 32) a y).toNat < (Vec1 M).size a) :
    ∀ j, (j 0).val < 32 * (t + 1) →
      (storeIdx (e := .f32) (storeIdx (e := .f32) f ![p₀] (loadIdx (e := .f32) T₀ ![v] hin) (fun _ => 1#1) false h₀) ![p₁]
        (loadIdx (e := .f32) T₁ ![v] hin) (fun _ => 1#1) false h₁ : FVec F (Vec1 M) .f32) j = interleave hM T₀ T₁ x j := by
  intro j hj
  have hent (l : Fin 16) (T : FVec F (Vec1 16) .f32) (hjl : (j 0).val / 2 = 16 * t + l.val) :
      loadIdx (e := .f32) T ![v] hin (Shape.ofLane l) = entry T (x (at1 ((j 0).val / 2) (by have hj : (j 0).val < M := (j 0).isLt; omega))) := by
    show T (idxAt ![v] hin (Shape.ofLane l)) = T (lane _)
    congr 1
    have hx : x (at1 ((j 0).val / 2) (by have hj : (j 0).val < M := (j 0).isLt; omega)) = v (Shape.ofLane l) := by
      rw [hv l]; congr 1; exact ext1 hjl
    refine ext1 ?_
    show (v (Shape.ofLane l)).toNat = (x _).toNat % 16
    rw [hx]
    exact (Nat.mod_eq_of_lt (hin 0 (Shape.ofLane l))).symm
  have hM' : (j 0).val < M := (j 0).isLt
  by_cases hlo : (j 0).val < 32 * t
  · rw [scatter_miss, scatter_miss]
    · exact hf j hlo
    · intro k hk
      have := hk 0
      rw [show (![p₀] : Fin 1 → IVec (Vec1 16) 32) 0 = p₀ from rfl, hp₀ k] at this
      omega
    · intro k hk
      have := hk 0
      rw [show (![p₁] : Fin 1 → IVec (Vec1 16) 32) 0 = p₁ from rfl, hp₁ k] at this
      omega
  · obtain ⟨l, hl⟩ : ∃ l : Fin 16, (j 0).val / 2 = 16 * t + l.val := ⟨⟨(j 0).val / 2 - 16 * t, by omega⟩, by show _ = 16 * t + ((j 0).val / 2 - 16 * t); omega⟩
    by_cases hpar : (j 0).val % 2 = 0
    · rw [scatter_miss, scatter_hit h₀ _ _ j l]
      · rw [hent l T₀ hl]; unfold interleave; rw [if_pos hpar]
      · intro a; obtain rfl : a = 0 := Fin.eq_zero a
        show (j 0).val = (p₀ (Shape.ofLane l)).toNat
        rw [hp₀ l]; omega
      · intro k hk
        have := hk 0
        rw [show (![p₀] : Fin 1 → IVec (Vec1 16) 32) 0 = p₀ from rfl, hp₀ k] at this
        exact Fin.ext (by omega)
      · intro k hk
        have := hk 0
        rw [show (![p₁] : Fin 1 → IVec (Vec1 16) 32) 0 = p₁ from rfl, hp₁ k] at this
        omega
    · rw [scatter_hit h₁ _ _ j l]
      · rw [hent l T₁ hl]; unfold interleave; rw [if_neg hpar]
      · intro a; obtain rfl : a = 0 := Fin.eq_zero a
        show (j 0).val = (p₁ (Shape.ofLane l)).toNat
        rw [hp₁ l]; omega
      · intro k hk
        have := hk 0
        rw [show (![p₁] : Fin 1 → IVec (Vec1 16) 32) 0 = p₁ from rfl, hp₁ k] at this
        exact Fin.ext (by omega)

end Cert.Proof.Lookup

end
-- ==== Proof.KTile.lean ====
module

public import proofs.«01_k».proof.Defs
public import Idealize.ShloMosaic.Lib.SparseCore.Quiescent
public import Idealize.ShloMosaic.Lib.SparseCore.Ops
public import Idealize.ShloMosaic.Lib.Transfers
public import Idealize.ShloMosaic.Lib.StableHlo.Run
public import Idealize.ShloMosaic.Lib.Pipeline.Kit
public import Idealize.ShloMosaic.Lib.Tactic
public import proofs.«01_k».proof.Proof.Gen.Kernel
public import proofs.«01_k».proof.Proof.Gen.Kernel.Skeleton
public import proofs.«01_k».proof.Proof.Lookup

@[expose] public section

noncomputable section

/-! # One tile

What one vector subcore does: it copies the packed tables in, folds them into two sixteen-lane tables, and in ten chunks
looks its indices up in both, writing the entries interleaved. -/

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The indices, as a tile names them in the large memory. -/
abbrev aX : Memref sig .scVector .hbm S3276800 .i32 := Memref.whole main_v0_scv
/-- The packed tables there. -/
abbrev aP : Memref sig .scVector .hbm S16 .f32 := Memref.whole main_v4_scv
/-- The result there. -/
abbrev aO : Memref sig .scVector .hbm S6553600 .f32 := Memref.whole main_v5_scv
/-- A tile's own copy of the packed tables. -/
abbrev sP : Memref sig .scVector .vmem S16 .f32 := Memref.whole cc0_scratch0
/-- The folded table of output feature 0. -/
abbrev sA : Memref sig .scVector .vmem S16 .f32 := Memref.whole cc0_scratch1
/-- The folded table of output feature 1. -/
abbrev sB : Memref sig .scVector .vmem S16 .f32 := Memref.whole cc0_scratch2
/-- The buffer for one chunk of indices. -/
abbrev sX : Memref sig .scVector .vmem S10240 .i32 := Memref.whole cc0_scratch3
/-- The buffer for one chunk of results. -/
abbrev sO : Memref sig .scVector .vmem S20480 .f32 := Memref.whole cc0_scratch4

variable (L : grid0.Coords)

/-- The indices of chunk `g` of a tile. -/
abbrev rX (g : Fin 10) : Rect S3276800 :=
  Rect.unit (s := S3276800) (k0_off1 L (BitVec.ofNat 32 (10240 * g.val))) S10240.size (k0_off1_inb L g)
/-- The results of chunk `g` of a tile. -/
abbrev rO (g : Fin 10) : Rect S6553600 :=
  Rect.unit (s := S6553600) (k0_off3 L (BitVec.ofNat 32 (10240 * g.val))) S20480.size (k0_off3_inb L g)
/-- Those indices as a piece of the array. -/
abbrev pX (g : Fin 10) : Memref sig .scVector .hbm S10240 .i32 := aX.slice (rX L g) (fun _ => rfl)
/-- Those results as a piece of the array. -/
abbrev pO (g : Fin 10) : Memref sig .scVector .hbm S20480 .f32 := aO.slice (rO L g) (fun _ => rfl)

/-- The operations a tile performs. -/
abbrev ET (F : FTy → Type) (L : grid0.Coords) : Type → Type := TpuEff nD τ sig (Elt F) Λ₀ (.scVector ((L 0).castLE hcore0) ((L 1).castLE hsub0))

/-- One trip of the inner loop: sixteen indices looked up in both tables, the entries written interleaved. -/
def trip (t : Fin k0_t1_loop.trips) (_ : Unit) : Prog (ET F L) Unit := do
  let v70 : Vec F S16 .i32 ← Prog.lift (.load sX (Rect.unit (s := S10240) (k0_off2 t) S16.size (k0_off2_inb t)).toLoadRect (View.loadsAt_vmem h_S16))
  have hw : k0_chk9 v70 := (← Prog.lift (TpuEff.assume (k0_chk9 v70) (k0_chk9.dec v70))).down
  let v71 : Vec F S16 .f32 ← SparseCore.vectorLoadIdx sA ![v70] (k0_idx9_inb v70 hw) (View.loads_vmem h_S16)
  let v72 : Vec F S16 .f32 ← SparseCore.vectorLoadIdx sB ![v70] (k0_idx10_inb v70 hw) (View.loads_vmem h_S16)
  have v75 : IVec S16 32 := k0_pay7 (iota .scVector S16 32 [0] iota_S16_d0_w32_scVector) t
  have hw' : k0_chk10 v75 := (← Prog.lift (TpuEff.assume (k0_chk10 v75) (k0_chk10.dec v75))).down
  SparseCore.vectorStoreIdx sO ![v75] v71 (fun _ => 1#1) false (k0_idx11_inb v75 hw') (View.stores_vmem_bits_univ h_S20480 rfl)
  have v77 : IVec S16 32 := k0_pay8 v75
  have hw'' : k0_chk11 v77 := (← Prog.lift (TpuEff.assume (k0_chk11 v77) (k0_chk11.dec v77))).down
  SparseCore.vectorStoreIdx sO ![v77] v72 (fun _ => 1#1) false (k0_idx12_inb v77 hw'') (View.stores_vmem_bits_univ h_S20480 rfl)
  pure ⟨⟩

/-- One chunk: its indices copied in, the loop, its results copied out. -/
def chunk (g : Fin 10)
    (rA rB : DmaSem sig) : Prog (ET F L) PUnit := do
  Prog.lift (.enqueueDma (pX L g) (.here sX) (.dma rA) (View.wordExact_bits rfl) (Memref.isWhole_whole _).wordExact ⟨Or.inl rfl, trivial⟩)
  Prog.lift (.waitDma2 rA (pX L g) sX (View.wordExact_bits rfl) (Memref.isWhole_whole _).wordExact)
  Scf.Loop.for k0_t1_loop k0_t1_ok ⟨⟩ (trip L)
  Prog.lift (.enqueueDma sO (.here (pO L g)) (.dma rB) (Memref.isWhole_whole _).wordExact (View.wordExact_bits rfl) ⟨Or.inl rfl, trivial⟩)
  Prog.lift (.waitDma2 rB sO (pO L g) (Memref.isWhole_whole _).wordExact (View.wordExact_bits rfl))

/-- A whole buffer is whole. -/
abbrev whole (b : Ref sig .scVector) := Memref.isWhole_whole (sig := sig) b

/-- Before the chunks: the packed tables copied in and the two folded tables stored. -/
def prologue : Prog (ET F L) PUnit := do
  let ⟨_, _, v33⟩ ← k0_part1 L aX (whole _) aP (whole _) aO (whole _) sP (whole _) sA (whole _) sB (whole _) sX (whole _) sO (whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20
  let _ : Vec F S16 .f32 ← Prog.lift (.load sB (Rect.unit (s := S16) ![0] S16.size inb_S16_S16_0).toLoadRect (View.loadsAt_vmem h_S16))
  Prog.lift (.store sB (Rect.unit (s := S16) ![0] S16.size inb_S16_S16_0) v33 Finset.univ (View.stores_vmem_bits_univ h_S16 rfl) (.inl rfl))

/-- A tile's program is the prologue and ten chunks. -/
theorem kernel_eq : cc0_sc_kernel (F := F) L aX (whole _) aP (whole _) aO (whole _) sP (whole _) sA (whole _) sB (whole _) sX (whole _) sO (whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 = (do
    prologue L
    chunk L 0 cc0_scoped1.sem cc0_scoped2.sem
    chunk L 1 cc0_scoped3.sem cc0_scoped4.sem
    chunk L 2 cc0_scoped5.sem cc0_scoped6.sem
    chunk L 3 cc0_scoped7.sem cc0_scoped8.sem
    chunk L 4 cc0_scoped9.sem cc0_scoped10.sem
    chunk L 5 cc0_scoped11.sem cc0_scoped12.sem
    chunk L 6 cc0_scoped13.sem cc0_scoped14.sem
    chunk L 7 cc0_scoped15.sem cc0_scoped16.sem
    chunk L 8 cc0_scoped17.sem cc0_scoped18.sem
    chunk L 9 cc0_scoped19.sem cc0_scoped20.sem) := by
  unfold chunk prologue
  rw [cc0_sc_kernel_eq_skeleton]; unfold cc0_sc_kernel_skel
  rw [k0_part5_eq_skeleton]; unfold k0_part5_skel
  rw [k0_part4_eq_skeleton]; unfold k0_part4_skel
  rw [k0_part3_eq_skeleton]; unfold k0_part3_skel
  rw [k0_part2_eq_skeleton]; unfold k0_part2_skel
  rw [k0_part1_eq_skeleton]; unfold k0_part1_skel
  simp only [Prog.lift, Prog.bind_op, Prog.bind_ret, Prog.bind_assoc, Prog.pure_eq_ret]
  rfl

/-! ## The launch's set-up -/

/-- The names of the program's procedures. -/
abbrev ΛP : Labels := Pipeline.Sig Λ₀ (Fin 0) fun p => (pcfgs (F := F) p).Adm
/-- The launch on the SparseCores. -/
abbrev K : SparseCore.Cfg τ sig (ΛP (F := F)) 1 := sc (F := F)
/-- No loop is measured by a variant. -/
abbrev 𝒱₀ : Variants := Variants.none
/-- The ghost state of the hand-over between the cores. -/
abbrev UH : Type := URounds (GSem nD τ sig) ℕ
/-- The whole ghost state. -/
abbrev UU : Type := UH × Counters

local notation "𝕄" => MT nD τ sig (HIx 1) (Elt F) ℕ UU ℕ

/-- Where the hand-over's part lies in it. -/
abbrev EH : Emb UH (MT nD τ sig (HIx 1) (Elt F) ℕ UU ℕ) := embL

variable (d : Dev nD)

/-- The thread of the tile with coordinates `L`. -/
abbrev thr : Thread nD τ := V d ((L 0).castLE hcore0) ((L 1).castLE hsub0)

/-- What a thread owes, having perhaps waited on some more of its own semaphores. -/
def owesAny (t : Thread nD τ) (O : CellTallies nD τ sig (HIx 1)) (W : Waits sig (HIx 1)) : sProp 𝕄 :=
  iprop(∃ W', ⌜∀ p ∈ W', p ∈ W ∨ p.2 = none⌝ ∗ owes t O W')

omit [FloatOps F] in
/-- A copy that is started and at once waited for: the destination then holds what the source held, and nothing more is owed. -/
theorem copy_wait {t : Thread nD τ} {sp sp' : Space} {s : Shape} {e : EltTy} {src : Memref sig t.2.kind sp s e} {dst : Memref sig t.2.kind sp' s e}
    {sem : DmaSem sig} {hs1 hd1 hs2 hd2} {hsem} {α : Type} {k : PUnit → Prog (TpuEff nD τ sig (Elt F) Λ₀ t.2) α} {Q : α → sProp 𝕄}
    {defs : Defs nD τ sig (Elt F) Λ₀}
    {q : PosShare TreeShare} {fs : Buf (Elt F) (src.view.loc t)} {Sd : Finset (Idx (dst.view.loc t))} {fd : Buf (Elt F) (dst.view.loc t)}
    {O : CellTallies nD τ sig (HIx 1)} {W : Waits sig (HIx 1)} (hO : ∀ g, O g none = 0)
    (hcell : ((t, .dma sem) : GSem nD τ sig) ∈ ownCells t) (hpos : 0 < s.numel) (hSd : dst.view.set ⊆ Sd) :
    iprop(levAts (K (F := F)).L (K (F := F)).lev ∗ (src.view.loc t ↦[src.view.set]{q} fs) ∗ (dst.view.loc t ↦[Sd]{fullShare} fd)
        ∗ ownSems0 t ∗ owesAny t O W)
      ⊢ iprop((iprop((dst.view.loc t ↦[Sd]{fullShare} (dst.view.write (Elt F) fd (src.view.read (Elt F) fs) Finset.univ))
            ∗ (src.view.loc t ↦[src.view.set]{q} fs) ∗ ownSems0 t ∗ owesAny t O W) -∗ wp frame (wpE defs 𝒱₀ t none) Set.univ (k ⟨⟩) Q)
          -∗ wp frame (wpE defs 𝒱₀ t none) Set.univ
              (.op (.enqueueDma src (.here dst) (.dma sem) hs1 hd1 hsem) fun _ => .op (.waitDma2 sem src dst hs2 hd2) k) Q) := by
  unfold SparseCore.Cfg.ownSems0 owesAny
  rw [SparseCore.bigSep_erase' hcell]
  iintro ⟨#Hlv, Hs, Hd, ⟨Hsem, Hsems⟩, ⟨%W', %hW', HO⟩⟩ Hk
  iapply (Transfers.wp_dmaLocal countersEmb 𝒱₀ t none (q := q) (fs := fs) (fd := fd) none dst.view.dmaCredit rfl
    (View.dmaCredit_pos _ hpos) hSd) $$ [Hs Hd Hsem]
  · isplitl [Hs]; · iexact Hs
    isplitl [Hd]; · iexact Hd
    iexact Hsem
  iintro Hfl
  iapply (Transfers.wp_waitLocalO countersEmb 𝒱₀ t none (O := O) (W := W') none rfl) $$ [Hfl HO]
  · isplitl [Hfl]; · iexact Hfl
    isplitl [HO]; · iexact HO
    iapply ((K (F := F)).mayWait_none (SemLoc.dma sem) hO); iexact Hlv
  iintro ⟨⟨Hd, Hs⟩, Hsem, HO⟩
  iapply Hk
  isplitl [Hd]; · iexact Hd
  isplitl [Hs]; · iexact Hs
  isplitl [Hsem Hsems]
  · isplitl [Hsem] <;> iassumption
  iexists (insert (SemLoc.dma sem, none) W'); isplitr
  · ipureintro; intro p hp
    rcases Finset.mem_insert.mp hp with rfl | hp
    · exact .inr rfl
    · exact hW' p hp
  iexact HO

/-! ## One trip and one chunk's loop -/

/-- The index buffer held. -/
abbrev bX (f : Buf (Elt F) ((thr L d).loc cc0_scratch3)) : sProp 𝕄 := (thr L d).loc cc0_scratch3 ↦{fullShare} f
/-- The first folded table held. -/
abbrev bA (f : Buf (Elt F) ((thr L d).loc cc0_scratch1)) : sProp 𝕄 := (thr L d).loc cc0_scratch1 ↦{fullShare} f
/-- The second folded table held. -/
abbrev bB (f : Buf (Elt F) ((thr L d).loc cc0_scratch2)) : sProp 𝕄 := (thr L d).loc cc0_scratch2 ↦{fullShare} f
/-- The result buffer held. -/
abbrev bO (f : Buf (Elt F) ((thr L d).loc cc0_scratch4)) : sProp 𝕄 := (thr L d).loc cc0_scratch4 ↦{fullShare} f

open Cert.Proof.Lookup

/-- The loop makes 640 trips. -/
theorem trips_eq : k0_t1_loop.trips = 640 := by decide

/-- Lane `l` of the lane numbers is `l`. -/
theorem iota_lane (l : Fin 16) : (iota .scVector S16 32 [0] iota_S16_d0_w32_scVector : IVec S16 32) (Shape.ofLane (d := ![16]) l) = BitVec.ofNat 32 l.val := by
  revert l; decide

/-- In trip `t`, lane `l` writes its first entry at `32 t + 2 l`. -/
theorem pos_even (t : Fin k0_t1_loop.trips) (l : Fin 16) :
    (k0_pay7 (iota .scVector S16 32 [0] iota_S16_d0_w32_scVector) t (Shape.ofLane (d := ![16]) l)).toNat = 32 * t.val + 2 * l.val := by
  have ht : t.val < 640 := trips_eq ▸ t.isLt
  have hl := l.isLt
  show ((iota .scVector S16 32 [0] iota_S16_d0_w32_scVector : IVec S16 32) (Shape.ofLane (d := ![16]) l) * 2#32 + Scf.iv 0#32 1#32 t * 32#32).toNat = _
  rw [iota_lane]
  simp [Scf.iv]
  omega

/-- In trip `t`, lane `l` writes its second entry one further. -/
theorem pos_odd (t : Fin k0_t1_loop.trips) (l : Fin 16) :
    (k0_pay8 (k0_pay7 (iota .scVector S16 32 [0] iota_S16_d0_w32_scVector) t) (Shape.ofLane (d := ![16]) l)).toNat = 32 * t.val + 2 * l.val + 1 := by
  have ht : t.val < 640 := trips_eq ▸ t.isLt
  have hl := l.isLt
  have h := pos_even t l
  show (k0_pay7 (iota .scVector S16 32 [0] iota_S16_d0_w32_scVector) t (Shape.ofLane (d := ![16]) l) + 1#32).toNat = _
  rw [BitVec.toNat_add, h]
  simp
  omega

/-- Every position of a sixteen-lane vector is a lane. -/
theorem ofLane_surj (x : S16.Idx) : ∃ l : Fin 16, x = Shape.ofLane (d := ![16]) l :=
  ⟨x 0, ext1 rfl⟩

/-- The first entries' positions lie in the result buffer. -/
theorem chk_even (t : Fin k0_t1_loop.trips) : k0_chk10 (k0_pay7 (iota .scVector S16 32 [0] iota_S16_d0_w32_scVector) t) := by
  intro a x
  obtain rfl : a = 0 := Subsingleton.elim _ _
  obtain ⟨l, rfl⟩ := ofLane_surj x
  have ht : t.val < 640 := trips_eq ▸ t.isLt
  have hl := l.isLt
  show (k0_pay7 _ t _).toNat < 20480
  rw [pos_even]; omega

/-- The second entries' positions lie in the result buffer. -/
theorem chk_odd (t : Fin k0_t1_loop.trips) : k0_chk11 (k0_pay8 (k0_pay7 (iota .scVector S16 32 [0] iota_S16_d0_w32_scVector) t)) := by
  intro a x
  obtain rfl : a = 0 := Subsingleton.elim _ _
  obtain ⟨l, rfl⟩ := ofLane_surj x
  have ht : t.val < 640 := trips_eq ▸ t.isLt
  have hl := l.isLt
  show (k0_pay8 _ _).toNat < 20480
  rw [pos_odd]; omega

/-- In trip `t`, lane `l` loads index `16 t + l` of the chunk. -/
theorem load_lane (t : Fin k0_t1_loop.trips) (xs : IVec S10240 32) (l : Fin 16) :
    (sX.view.readAt (Elt F) (Rect.unit (s := S10240) (k0_off2 t) S16.size (k0_off2_inb t)).toLoadRect xs : IVec S16 32) (Shape.ofLane (d := ![16]) l)
      = xs (at1 (16 * t.val + l.val) (by have ht : t.val < 640 := trips_eq ▸ t.isLt; have := l.isLt; omega)) := by
  simp only [View.readAt_apply, Memref.view_whole, View.read_whole]
  congr 1
  refine ext1 ?_
  rw [LoadRect.idx_apply]
  show k0_off2 t 0 + 1 * l.val = 16 * t.val + l.val
  rw [show k0_off2 t 0 = 16 * t.val from congrFun (k0_off2_eq t) 0]; omega

variable {defs : Defs nD τ sig (Elt F) Λ₀}

/-- One trip extends the interleaved prefix of the result buffer by 32. -/
theorem trip_ok (tA tB : FVec F S16 .f32) (xs : IVec S10240 32) (hxs : ∀ j, (xs j).toNat < 16) (t : Fin k0_t1_loop.trips) :
    iprop(bX L d xs ∗ bA L d tA ∗ bB L d tB ∗ ∃ f : FVec F S20480 .f32, ⌜∀ j, (j 0).val < 32 * t.val → f j = interleave rfl tA tB xs j⌝ ∗ bO L d f)
      ⊢ wp frame (wpE defs 𝒱₀ (thr L d) none) Set.univ (trip L t ())
          fun _ => iprop(bX L d xs ∗ bA L d tA ∗ bB L d tB ∗ ∃ f : FVec F S20480 .f32, ⌜∀ j, (j 0).val < 32 * (t.val + 1) → f j = interleave rfl tA tB xs j⌝ ∗ bO L d f) := by
  unfold trip
  simp only [Prog.lift, Prog.bind_op, Prog.bind_ret, Prog.bind_assoc, Prog.pure_eq_ret]
  iintro ⟨HX, HA, HB, %f, %hf, HO⟩
  iapply (wp_load 𝒱₀ (thr L d) none Set.univ (m := sX) (S := Finset.univ) (Finset.subset_univ _)) $$ HX; iintro HX
  have hv := load_lane (F := F) t xs
  have hin : k0_chk9 (sX.view.readAt (Elt F) (Rect.unit (s := S10240) (k0_off2 t) S16.size (k0_off2_inb t)).toLoadRect xs) := by
    have h : ∀ a x, ((![(sX.view.readAt (Elt F) (Rect.unit (s := S10240) (k0_off2 t) S16.size (k0_off2_inb t)).toLoadRect xs : IVec S16 32)] : Fin 1 → IVec S16 32) a x).toNat < S16.size a := by
      intro a x
      obtain rfl : a = 0 := Subsingleton.elim _ _
      obtain ⟨l, rfl⟩ := ofLane_surj x
      have := hxs (at1 (16 * t.val + l.val) (by have ht : t.val < 640 := trips_eq ▸ t.isLt; have := l.isLt; omega))
      rw [← hv l] at this
      exact this
    exact ⟨h, h⟩
  generalize sX.view.readAt (Elt F) (Rect.unit (s := S10240) (k0_off2 t) S16.size (k0_off2_inb t)).toLoadRect xs = v at hv hin
  rw [wp_assume_of _ _ _ _ hin]
  iapply (SparseCore.wp_vectorLoadIdx 𝒱₀ (thr L d) none Set.univ (base := sA) (S := Finset.univ) (q := fullShare) (Finset.subset_univ _)) $$ HA; iintro HA
  iapply (SparseCore.wp_vectorLoadIdx 𝒱₀ (thr L d) none Set.univ (base := sB) (S := Finset.univ) (q := fullShare) (Finset.subset_univ _)) $$ HB; iintro HB
  rw [wp_assume_of _ _ _ _ (chk_even t)]
  have hset : (sO.access (.whole S20480)).set = Finset.univ := Memref.set_access_whole _
  ihave HO' := (Entails.of_eq (show bO L d f = ((sO.access (.whole S20480)).loc (thr L d) ↦[(sO.access (.whole S20480)).set]{fullShare} f : sProp 𝕄) by rw [hset])) $$ HO
  iapply (SparseCore.wp_vectorStoreIdx 𝒱₀ (thr L d) none Set.univ (base := sO)) $$ HO'; iintro HO
  rw [wp_assume_of _ _ _ _ (chk_odd t)]
  iapply (SparseCore.wp_vectorStoreIdx 𝒱₀ (thr L d) none Set.univ (base := sO)) $$ HO; iintro HO
  rw [wp_ret]; imodintro
  isplitl [HX]; · iexact HX
  isplitl [HA]; · iexact HA
  isplitl [HB]; · iexact HB
  iexists _; isplitr
  rotate_left
  · rw [hset]; iexact HO
  ipureintro
  have e1 : ∀ g w : FVec F S20480 .f32, View.write (Elt F) (sO.access (Rect.whole S20480)) g w Finset.univ = w := fun g w => Memref.write_access_whole_univ (Elt F) cc0_scratch4 g w
  have e2 : ∀ g : FVec F S20480 .f32, View.read (Elt F) (sO.access (Rect.whole S20480)) g = g := fun g => Memref.read_access_whole (Elt F) cc0_scratch4 g
  have e3 : View.read (Elt F) (sA.access (Rect.whole S16)) tA = tA := Memref.read_access_whole (Elt F) cc0_scratch1 tA
  have e4 : View.read (Elt F) (sB.access (Rect.whole S16)) tB = tB := Memref.read_access_whole (Elt F) cc0_scratch2 tB
  have hk := trip_extends (F := F) (M := 20480) (N := 10240) rfl tA tB xs t.val (by have ht : t.val < 640 := trips_eq ▸ t.isLt; omega) f hf v hv hin.1
    _ _ (pos_even t) (pos_odd t) (chk_even t) (chk_odd t)
  rw [e1, e2, e1, e2, e3, e4]
  exact hk

/-- The loop leaves the whole chunk's interleaved lookups in the result buffer. -/
theorem loop_ok (tA tB : FVec F S16 .f32) (xs : IVec S10240 32) (hxs : ∀ j, (xs j).toNat < 16) (f : FVec F S20480 .f32) :
    iprop(bX L d xs ∗ bA L d tA ∗ bB L d tB ∗ bO L d f)
      ⊢ wp frame (wpE defs 𝒱₀ (thr L d) none) Set.univ (Scf.Loop.for k0_t1_loop k0_t1_ok ⟨⟩ (trip L))
          fun _ => iprop(bX L d xs ∗ bA L d tA ∗ bB L d tB ∗ bO L d (interleave rfl tA tB xs)) := by
  iintro ⟨HX, HA, HB, HO⟩
  iapply (Scf.wp_for _ _ _ _ _ _ k0_t1_ok _ (trip L)
    (fun k _ => iprop(bX L d xs ∗ bA L d tA ∗ bB L d tB ∗ ∃ f : FVec F S20480 .f32, ⌜∀ j, (j 0).val < 32 * k → f j = interleave rfl tA tB xs j⌝ ∗ bO L d f))
    (fun k _ => trip_ok L d tA tB xs hxs k))
  isplitl
  · isplitl [HX]; · iexact HX
    isplitl [HA]; · iexact HA
    isplitl [HB]; · iexact HB
    iexists f; isplitr
    · ipureintro; intro j hj; omega
    · iexact HO
  iintro %acc ⟨HX, HA, HB, %f', %hf', HO⟩
  isplitl [HX]; · iexact HX
  isplitl [HA]; · iexact HA
  isplitl [HB]; · iexact HB
  have e : f' = interleave rfl tA tB xs := by
    funext j
    refine hf' j ?_
    have hj : (j 0).val < 20480 := (j 0).isLt
    have : k0_t1_loop.trips = 640 := trips_eq
    show _ < 32 * k0_t1_loop.trips
    omega
  rw [← e]; iexact HO

/-! ## One chunk -/

/-- Where the indices lie. -/
abbrev xLoc : Loc nD τ sig := (SparseCore.T d).loc main_v0
/-- Where the packed tables lie. -/
abbrev pLoc : Loc nD τ sig := (SparseCore.T d).loc main_v4
/-- Where the result lies. -/
abbrev oLoc : Loc nD τ sig := (SparseCore.T d).loc main_v5

/-- The indices of tile `(c, s)`. -/
abbrev xPart (c s : ℕ) : Finset S3276800.Idx := Finset.univ.filter fun j => (j 0).val / 102400 = 2 * s + c
/-- The results of tile `(c, s)`. -/
abbrev oPart (c s : ℕ) : Finset S6553600.Idx := Finset.univ.filter fun j => (j 0).val / 204800 = 2 * s + c

/-- There are two cores. -/
theorem coord0 : (L 0).val < 2 := (L 0).isLt
/-- A core has sixteen tiles. -/
theorem coord1 : (L 1).val < 16 := (L 1).isLt

/-- Where chunk `g`'s indices begin. -/
theorem offX (g : Fin 10) : k0_off1 L (BitVec.ofNat 32 (10240 * g.val)) 0 = 204800 * (L 1).val + 102400 * (L 0).val + 10240 * g.val :=
  congrFun (k0_off1_eq L g) 0
/-- Where chunk `g`'s results begin. -/
theorem offO (g : Fin 10) : k0_off3 L (BitVec.ofNat 32 (10240 * g.val)) 0 = 409600 * (L 1).val + 204800 * (L 0).val + 20480 * g.val :=
  congrFun (k0_off3_eq L g) 0

/-- A chunk's indices are among its tile's. -/
theorem rX_sub (g : Fin 10) : (pX L g).view.set ⊆ xPart (L 0).val (L 1).val := by
  intro j hj
  rw [show (pX L g).view.set = (rX L g).set from View.set_slice_whole main_v0_scv (rX L g), Rect.mem_set_unit] at hj
  have h := hj 0
  rw [offX, show S10240.size 0 = 10240 from rfl] at h
  have := g.isLt
  exact Finset.mem_filter.mpr ⟨Finset.mem_univ _, by omega⟩

/-- Which positions of the result chunk `g` covers. -/
theorem rO_mem (g : Fin 10) (j : S6553600.Idx) :
    j ∈ (pO L g).view.set ↔ 409600 * (L 1).val + 204800 * (L 0).val + 20480 * g.val ≤ (j 0).val ∧ (j 0).val < 409600 * (L 1).val + 204800 * (L 0).val + 20480 * g.val + 20480 := by
  rw [show (pO L g).view.set = (rO L g).set from View.set_slice_whole main_v5_scv (rO L g), Rect.mem_set_unit]
  constructor
  · intro h; have := h 0; rw [offO] at this; exact this
  · intro h a; obtain rfl : a = 0 := Subsingleton.elim _ _
    rw [offO]; exact h

/-- A chunk's results are among its tile's. -/
theorem rO_sub (g : Fin 10) : (pO L g).view.set ⊆ oPart (L 0).val (L 1).val := by
  intro j hj
  rw [rO_mem] at hj
  have := g.isLt
  exact Finset.mem_filter.mpr ⟨Finset.mem_univ _, by omega⟩

omit [FloatOps F] in
/-- Index `j` of a chunk is the array's index that many places after the chunk's beginning. -/
theorem read_X (g : Fin 10) (X : IVec S3276800 32) (j : S10240.Idx) :
    ((pX L g).view.read (Elt F) X : IVec S10240 32) j = X (at1 (204800 * (L 1).val + 102400 * (L 0).val + 10240 * g.val + (j 0).val)
      (by have := coord0 L; have := coord1 L; have := g.isLt; have : (j 0).val < 10240 := (j 0).isLt; omega)) := by
  rw [View.read_apply]
  show X ((rX L g).emb j) = _
  congr 1
  refine ext1 ?_
  rw [Rect.emb_apply]
  show k0_off1 L _ 0 + 1 * (j 0).val = 204800 * (L 1).val + 102400 * (L 0).val + 10240 * g.val + (j 0).val
  rw [offX]; omega

/-- What a tile's chunks have written by the time the first `n` positions of its part are done. -/
def Done (tA tB : FVec F S16 .f32) (X : IVec S3276800 32) (n : ℕ) (fo : FVec F S6553600 .f32) : Prop :=
  ∀ j, 409600 * (L 1).val + 204800 * (L 0).val ≤ (j 0).val → (j 0).val < 409600 * (L 1).val + 204800 * (L 0).val + n → fo j = interleave rfl tA tB X j

/-- Writing chunk `g` after the ones before it makes one chunk more done. -/
theorem done_step (tA tB : FVec F S16 .f32) (X : IVec S3276800 32) (g : Fin 10) (fo : FVec F S6553600 .f32) (h : Done L tA tB X (20480 * g.val) fo) :
    Done L tA tB X (20480 * (g.val + 1))
      ((pO L g).view.write (Elt F) fo (interleave (N := 10240) (M := 20480) rfl tA tB ((pX L g).view.read (Elt F) X : IVec S10240 32) : FVec F S20480 .f32) Finset.univ) := by
  intro j hlo hhi
  by_cases hj : j ∈ (pO L g).view.set
  · have hb := (rO_mem L g j).mp hj
    obtain ⟨x, -, hx⟩ := Finset.mem_map.mp (show j ∈ Finset.univ.map (rO L g).emb by
      rw [Rect.map_emb_univ]; rw [show (pO L g).view.set = (rO L g).set from View.set_slice_whole main_v5_scv (rO L g)] at hj; exact hj)
    have hx0 : (j 0).val = 409600 * (L 1).val + 204800 * (L 0).val + 20480 * g.val + (x 0).val := by
      rw [← hx, Rect.emb_apply]
      show k0_off3 L _ 0 + 1 * (x 0).val = _
      rw [offO]; omega
    have hw := View.write_emb_of_mem (v := (pO L g).view) (Val := Elt F) fo (interleave (N := 10240) (M := 20480) rfl tA tB ((pX L g).view.read (Elt F) X : IVec S10240 32) : FVec F S20480 .f32) (Finset.mem_univ x)
    rw [show (pO L g).view.emb x = j from hx] at hw
    rw [hw, cast_eq]
    unfold interleave
    rw [read_X]
    have h2 : (x 0).val % 2 = (j 0).val % 2 := by omega
    rw [h2]
    refine congrArg (fun z => entry _ (X z)) (ext1 ?_)
    show 204800 * (L 1).val + 102400 * (L 0).val + 10240 * g.val + (x 0).val / 2 = (j 0).val / 2
    omega
  · rw [View.write_of_not_mem (v := (pO L g).view) (Val := Elt F) _ _ _ hj]
    refine h j hlo ?_
    rw [rO_mem] at hj
    omega

/-- What a tile holds between its chunks. -/
def St (tA tB : FVec F S16 .f32) (X : IVec S3276800 32) (O : CellTallies nD τ sig (HIx 1)) (W : Waits sig (HIx 1)) (g : ℕ) : sProp 𝕄 :=
  iprop(levAts (K (F := F)).L (K (F := F)).lev ∗ (xLoc d ↦[xPart (L 0).val (L 1).val]{fullShare} X) ∗ bA L d tA ∗ bB L d tB ∗ (∃ f, bX L d f) ∗ (∃ f, bO L d f)
    ∗ (∃ fo, ⌜Done L tA tB X (20480 * g) fo⌝ ∗ (oLoc d ↦[oPart (L 0).val (L 1).val]{fullShare} fo))
    ∗ ownSems0 (thr L d) ∗ owesAny (thr L d) O W)

/-- One chunk takes a tile from the state before it to the state after it. -/
theorem chunk_ok (tA tB : FVec F S16 .f32) (X : IVec S3276800 32) (hX : ∀ j, (X j).toNat < 4) {O : CellTallies nD τ sig (HIx 1)} {W : Waits sig (HIx 1)}
    (hO : ∀ g, O g none = 0) (g : Fin 10) (rA rB : DmaSem sig) (hA : (SemLoc.dma rA : SemLoc sig).isScoped .scVector = true) (hB : (SemLoc.dma rB : SemLoc sig).isScoped .scVector = true) :
    St L d tA tB X O W g.val ⊢ wp frame (wpE defs 𝒱₀ (thr L d) none) Set.univ (chunk L g rA rB) fun _ => St L d tA tB X O W (g.val + 1) := by
  unfold chunk St
  simp only [Prog.lift, Prog.bind_op, Prog.bind_ret, Prog.bind_assoc, Prog.pure_eq_ret]
  iintro ⟨#Hlv, HX, HA, HB, ⟨%fx, HsX⟩, ⟨%fs, HsO⟩, ⟨%fo, %hfo, HO⟩, Hsems, Howes⟩
  ihave HX' := (pointsTo_split_subset (ℓ := xLoc d) (q := fullShare) (f := X) (rX_sub L g)).1 $$ HX
  icases HX' with ⟨HXs, HXr⟩
  iapply (copy_wait (F := F) (t := thr L d) (src := pX L g) (dst := sX) (sem := rA) (Sd := Finset.univ) (fd := fx) (fs := X) (q := fullShare) hO
    ((mem_ownCells (g := ((thr L d, .dma rA) : GSem nD τ sig))).mpr ⟨rfl, hA⟩) (show 0 < S10240.numel by decide) (Finset.subset_univ _)) $$ [HXs HsX Hsems Howes]
  · isplitr; · iexact Hlv
    isplitl [HXs]; · iexact HXs
    isplitl [HsX]; · iexact HsX
    isplitl [Hsems] <;> iassumption
  iintro ⟨HsX, HXs, Hsems, Howes⟩
  ihave HX := (pointsTo_split_subset (ℓ := xLoc d) (q := fullShare) (f := X) (rX_sub L g)).2 $$ [HXs HXr]
  · isplitl [HXs] <;> iassumption
  have e : (sX.view.write (Elt F) fx ((pX L g).view.read (Elt F) X) Finset.univ) = ((pX L g).view.read (Elt F) X : IVec S10240 32) := View.write_whole_univ _ _ _
  rw [e]
  have hxs : ∀ j, (((pX L g).view.read (Elt F) X : IVec S10240 32) j).toNat < 16 := fun j => by
    rw [read_X]; exact (hX _).trans (by decide)
  rw [wp_bind]
  iapply (wp_wand _ _ _) $$ [HsX HA HB HsO]
  · iapply (loop_ok L d tA tB _ hxs fs)
    isplitl [HsX]; · iexact HsX
    isplitl [HA]; · iexact HA
    isplitl [HB] <;> iassumption
  iintro %u ⟨HsX, HA, HB, HsO⟩
  ihave HsO' := (Entails.of_eq (show bO L d (interleave (N := 10240) (M := 20480) rfl tA tB ((pX L g).view.read (Elt F) X : IVec S10240 32)) = ((sO.view.loc (thr L d)) ↦[sO.view.set]{fullShare} _ : sProp 𝕄) by rw [show sO.view.set = Finset.univ from View.set_whole _])) $$ HsO
  iapply (copy_wait (F := F) (t := thr L d) (src := sO) (dst := pO L g) (sem := rB) (Sd := oPart (L 0).val (L 1).val) (fd := fo) (q := fullShare) hO
    ((mem_ownCells (g := ((thr L d, .dma rB) : GSem nD τ sig))).mpr ⟨rfl, hB⟩) h_S20480 (rO_sub L g)) $$ [HsO' HO Hsems Howes]
  · isplitr; · iexact Hlv
    isplitl [HsO']; · iexact HsO'
    isplitl [HO]; · iexact HO
    isplitl [Hsems] <;> iassumption
  iintro ⟨HO, HsO, Hsems, Howes⟩
  rw [wp_ret]; imodintro
  isplitr; · iexact Hlv
  isplitl [HX]; · iexact HX
  isplitl [HA]; · iexact HA
  isplitl [HB]; · iexact HB
  isplitl [HsX]; · iexists _; iexact HsX
  isplitl [HsO]
  · iexists _
    iapply (Entails.of_eq (show ((sO.view.loc (thr L d)) ↦[sO.view.set]{fullShare} _ : sProp 𝕄) = bO L d (interleave (N := 10240) (M := 20480) rfl tA tB ((pX L g).view.read (Elt F) X : IVec S10240 32)) by rw [show sO.view.set = Finset.univ from View.set_whole _])) $$ HsO
  isplitl [HO]
  · iexists _; isplitr
    rotate_left
    · iexact HO
    ipureintro
    rw [show (sO.view.read (Elt F) (interleave (N := 10240) (M := 20480) rfl tA tB ((pX L g).view.read (Elt F) X : IVec S10240 32))) = _ from View.read_whole _ _]
    exact done_step L tA tB X g fo hfo
  isplitl [Hsems] <;> iassumption

/-- The ten chunks fill the tile's part of the result. -/
theorem chunks_ok (tA tB : FVec F S16 .f32) (X : IVec S3276800 32) (hX : ∀ j, (X j).toNat < 4) {O : CellTallies nD τ sig (HIx 1)} {W : Waits sig (HIx 1)}
    (hO : ∀ g, O g none = 0) :
    St L d tA tB X O W 0 ⊢ wp frame (wpE defs 𝒱₀ (thr L d) none) Set.univ (do
    chunk L 0 cc0_scoped1.sem cc0_scoped2.sem
    chunk L 1 cc0_scoped3.sem cc0_scoped4.sem
    chunk L 2 cc0_scoped5.sem cc0_scoped6.sem
    chunk L 3 cc0_scoped7.sem cc0_scoped8.sem
    chunk L 4 cc0_scoped9.sem cc0_scoped10.sem
    chunk L 5 cc0_scoped11.sem cc0_scoped12.sem
    chunk L 6 cc0_scoped13.sem cc0_scoped14.sem
    chunk L 7 cc0_scoped15.sem cc0_scoped16.sem
    chunk L 8 cc0_scoped17.sem cc0_scoped18.sem
    chunk L 9 cc0_scoped19.sem cc0_scoped20.sem) fun _ => St L d tA tB X O W 10 := by
  rw [wp_bind]
  refine (chunk_ok L d tA tB X hX hO 0 _ _ (by decide) (by decide)).trans (wp_mono _ _ _ fun _ => ?_)
  rw [wp_bind]
  refine (chunk_ok L d tA tB X hX hO 1 _ _ (by decide) (by decide)).trans (wp_mono _ _ _ fun _ => ?_)
  rw [wp_bind]
  refine (chunk_ok L d tA tB X hX hO 2 _ _ (by decide) (by decide)).trans (wp_mono _ _ _ fun _ => ?_)
  rw [wp_bind]
  refine (chunk_ok L d tA tB X hX hO 3 _ _ (by decide) (by decide)).trans (wp_mono _ _ _ fun _ => ?_)
  rw [wp_bind]
  refine (chunk_ok L d tA tB X hX hO 4 _ _ (by decide) (by decide)).trans (wp_mono _ _ _ fun _ => ?_)
  rw [wp_bind]
  refine (chunk_ok L d tA tB X hX hO 5 _ _ (by decide) (by decide)).trans (wp_mono _ _ _ fun _ => ?_)
  rw [wp_bind]
  refine (chunk_ok L d tA tB X hX hO 6 _ _ (by decide) (by decide)).trans (wp_mono _ _ _ fun _ => ?_)
  rw [wp_bind]
  refine (chunk_ok L d tA tB X hX hO 7 _ _ (by decide) (by decide)).trans (wp_mono _ _ _ fun _ => ?_)
  rw [wp_bind]
  refine (chunk_ok L d tA tB X hX hO 8 _ _ (by decide) (by decide)).trans (wp_mono _ _ _ fun _ => ?_)
  exact chunk_ok L d tA tB X hX hO 9 _ _ (by decide) (by decide)

/-! ## The prologue: the two tables -/

/-- The positions of the rows' first entries are in range. -/
theorem chk1 : k0_chk1 k0_pay2 := by unfold k0_chk1; decide
/-- The positions of the rows' second entries are in range. -/
theorem chk2 : k0_chk2 k0_pay3 := by unfold k0_chk2; decide
/-- Position 8 of the packed tables is in range. -/
theorem chk3 : k0_chk3 (broadcast S16 8#32) := by unfold k0_chk3; decide
/-- Position 9 of the packed tables is in range. -/
theorem chk4 : k0_chk4 (broadcast S16 9#32) := by unfold k0_chk4; decide
/-- Position 12 of the packed tables is in range. -/
theorem chk5 : k0_chk5 (broadcast S16 12#32) := by unfold k0_chk5; decide
/-- Position 10 of the packed tables is in range. -/
theorem chk6 : k0_chk6 (broadcast S16 10#32) := by unfold k0_chk6; decide
/-- Position 11 of the packed tables is in range. -/
theorem chk7 : k0_chk7 (broadcast S16 11#32) := by unfold k0_chk7; decide
/-- Position 13 of the packed tables is in range. -/
theorem chk8 : k0_chk8 (broadcast S16 13#32) := by unfold k0_chk8; decide

/-- The folded table of output feature 0: a lane's row times the matrix's first row, plus the first bias. -/
def tabA (P : FVec F S16 .f32) : FVec F S16 .f32 :=
  k0_pay4 (loadIdx (e := .f32) P ![k0_pay2] (k0_idx1_inb k0_pay2 chk1)) (loadIdx (e := .f32) P ![k0_pay3] (k0_idx2_inb k0_pay3 chk2)) (loadIdx (e := .f32) P ![(broadcast S16 8#32)] (k0_idx3_inb (broadcast S16 8#32) chk3))
    (loadIdx (e := .f32) P ![(broadcast S16 9#32)] (k0_idx4_inb (broadcast S16 9#32) chk4)) (loadIdx (e := .f32) P ![(broadcast S16 12#32)] (k0_idx5_inb (broadcast S16 12#32) chk5))
/-- The folded table of output feature 1: a lane's row times the matrix's second row, plus the second bias. -/
def tabB (P : FVec F S16 .f32) : FVec F S16 .f32 :=
  k0_pay5 (loadIdx (e := .f32) P ![k0_pay2] (k0_idx1_inb k0_pay2 chk1)) (loadIdx (e := .f32) P ![k0_pay3] (k0_idx2_inb k0_pay3 chk2)) (loadIdx (e := .f32) P ![(broadcast S16 10#32)] (k0_idx6_inb (broadcast S16 10#32) chk6))
    (loadIdx (e := .f32) P ![(broadcast S16 11#32)] (k0_idx7_inb (broadcast S16 11#32) chk7)) (loadIdx (e := .f32) P ![(broadcast S16 13#32)] (k0_idx8_inb (broadcast S16 13#32) chk8))

/-- All sixteen lanes of a table. -/
abbrev r0 : Rect S16 := Rect.unit (s := S16) ![0] S16.size inb_S16_S16_0

/-- A lane of all lanes is itself. -/
theorem r0_emb (i : S16.Idx) : (r0 : Rect S16).emb i = i :=
  ext1 (by rw [Rect.emb_apply]; show 0 + 1 * (i 0).val = (i 0).val; omega)

omit [FloatOps F] in
/-- Storing all lanes of the first table replaces it. -/
theorem store_A (f w : FVec F S16 .f32) : (sA.access r0).write (Elt F) f w Finset.univ = w := by
  funext i
  have h := View.write_emb_of_mem (v := (sA.access r0)) (Val := Elt F) f w (Finset.mem_univ i)
  rw [show (sA.access r0).emb i = i from r0_emb i] at h
  exact h
omit [FloatOps F] in
/-- Storing all lanes of the second table replaces it. -/
theorem store_B (f w : FVec F S16 .f32) : (sB.access r0).write (Elt F) f w Finset.univ = w := by
  funext i
  have h := View.write_emb_of_mem (v := (sB.access r0)) (Val := Elt F) f w (Finset.mem_univ i)
  rw [show (sB.access r0).emb i = i from r0_emb i] at h
  exact h

/-- The prologue leaves the two folded tables in the tile's memory and gives back its share of the packed tables. -/
theorem prologue_ok (P : FVec F S16 .f32) (q : PosShare TreeShare) {O : CellTallies nD τ sig (HIx 1)} {W : Waits sig (HIx 1)}
    (hO : ∀ g, O g none = 0) :
    iprop(levAts (K (F := F)).L (K (F := F)).lev ∗ (pLoc d ↦{q} P) ∗ (∃ f, (thr L d).loc cc0_scratch0 ↦{fullShare} f) ∗ (∃ f, bA L d f) ∗ (∃ f, bB L d f)
        ∗ ownSems0 (thr L d) ∗ owesAny (thr L d) O W)
      ⊢ wp frame (wpE defs 𝒱₀ (thr L d) none) Set.univ (prologue L)
          fun _ => iprop((pLoc d ↦{q} P) ∗ (∃ f, (thr L d).loc cc0_scratch0 ↦{fullShare} f) ∗ bA L d (tabA P) ∗ bB L d (tabB P)
            ∗ ownSems0 (thr L d) ∗ owesAny (thr L d) O W) := by
  unfold prologue
  rw [k0_part1_eq_skeleton]; unfold k0_part1_skel
  simp only [Prog.lift, Prog.bind_op, Prog.bind_ret, Prog.bind_assoc, Prog.pure_eq_ret]
  iintro ⟨#Hlv, HP, ⟨%fp, HsP⟩, ⟨%fa, HA⟩, ⟨%fb, HB⟩, Hsems, Howes⟩
  ihave HP' := (Entails.of_eq (show (pLoc d ↦{q} P : sProp 𝕄) = ((aP.view.loc (thr L d)) ↦[aP.view.set]{q} P) by rw [show aP.view.set = Finset.univ from View.set_whole _])) $$ HP
  iapply (copy_wait (F := F) (t := thr L d) (src := aP) (dst := sP) (sem := cc0_scoped0.sem) (Sd := Finset.univ) (fd := fp) (fs := P) (q := q) hO
    ((mem_ownCells (g := ((thr L d, .dma cc0_scoped0.sem) : GSem nD τ sig))).mpr ⟨rfl, by show (SemLoc.dma cc0_scoped0.sem : SemLoc sig).isScoped .scVector = true; decide⟩)
    h_S16 (Finset.subset_univ _)) $$ [HP' HsP Hsems Howes]
  · isplitr; · iexact Hlv
    isplitl [HP']; · iexact HP'
    isplitl [HsP]; · iexact HsP
    isplitl [Hsems] <;> iassumption
  iintro ⟨HsP, HP, Hsems, Howes⟩
  have e : (sP.view.write (Elt F) fp (aP.view.read (Elt F) P) Finset.univ) = P := (View.write_whole_univ _ _ _).trans (View.read_whole _ _)
  rw [e]
  have e0 : View.read (Elt F) (sP.access (Rect.whole S16)) P = P := Memref.read_access_whole (Elt F) cc0_scratch0 P
  rw [wp_assume_of _ _ _ _ chk1]
  iapply (SparseCore.wp_vectorLoadIdx 𝒱₀ (thr L d) none Set.univ (base := sP) (S := Finset.univ) (q := fullShare) (Finset.subset_univ _)) $$ HsP; iintro HsP
  rw [wp_assume_of _ _ _ _ chk2]
  iapply (SparseCore.wp_vectorLoadIdx 𝒱₀ (thr L d) none Set.univ (base := sP) (S := Finset.univ) (q := fullShare) (Finset.subset_univ _)) $$ HsP; iintro HsP
  rw [wp_assume_of _ _ _ _ chk3]
  iapply (SparseCore.wp_vectorLoadIdx 𝒱₀ (thr L d) none Set.univ (base := sP) (S := Finset.univ) (q := fullShare) (Finset.subset_univ _)) $$ HsP; iintro HsP
  rw [wp_assume_of _ _ _ _ chk4]
  iapply (SparseCore.wp_vectorLoadIdx 𝒱₀ (thr L d) none Set.univ (base := sP) (S := Finset.univ) (q := fullShare) (Finset.subset_univ _)) $$ HsP; iintro HsP
  rw [wp_assume_of _ _ _ _ chk5]
  iapply (SparseCore.wp_vectorLoadIdx 𝒱₀ (thr L d) none Set.univ (base := sP) (S := Finset.univ) (q := fullShare) (Finset.subset_univ _)) $$ HsP; iintro HsP
  iapply (wp_load 𝒱₀ (thr L d) none Set.univ (m := sA) (S := Finset.univ) (Finset.subset_univ _)) $$ HA; iintro HA
  iapply (wp_store 𝒱₀ (thr L d) none Set.univ (m := sA) (r := r0) (Mk := Finset.univ) (S := Finset.univ) (Finset.subset_univ _)) $$ HA; iintro HA
  rw [wp_assume_of _ _ _ _ chk6]
  iapply (SparseCore.wp_vectorLoadIdx 𝒱₀ (thr L d) none Set.univ (base := sP) (S := Finset.univ) (q := fullShare) (Finset.subset_univ _)) $$ HsP; iintro HsP
  rw [wp_assume_of _ _ _ _ chk7]
  iapply (SparseCore.wp_vectorLoadIdx 𝒱₀ (thr L d) none Set.univ (base := sP) (S := Finset.univ) (q := fullShare) (Finset.subset_univ _)) $$ HsP; iintro HsP
  rw [wp_assume_of _ _ _ _ chk8]
  iapply (SparseCore.wp_vectorLoadIdx 𝒱₀ (thr L d) none Set.univ (base := sP) (S := Finset.univ) (q := fullShare) (Finset.subset_univ _)) $$ HsP; iintro HsP
  iapply (wp_load 𝒱₀ (thr L d) none Set.univ (m := sB) (S := Finset.univ) (Finset.subset_univ _)) $$ HB; iintro HB
  iapply (wp_store 𝒱₀ (thr L d) none Set.univ (m := sB) (r := r0) (Mk := Finset.univ) (S := Finset.univ) (Finset.subset_univ _)) $$ HB; iintro HB
  rw [wp_ret]; imodintro
  rw [e0, store_A, store_B]
  isplitl [HP]
  · iapply (Entails.of_eq (show ((aP.view.loc (thr L d)) ↦[aP.view.set]{q} P : sProp 𝕄) = (pLoc d ↦{q} P) by rw [show aP.view.set = Finset.univ from View.set_whole _])) $$ HP
  isplitl [HsP]; · iexists _; iexact HsP
  isplitl [HA]; · iexact HA
  isplitl [HB]; · iexact HB
  isplitl [Hsems] <;> iassumption

/-! ## The tile's task -/

/-- Different buffers of a tile are different places. -/
theorem ref_ne {a b : Ref sig .scVector} (h : a ≠ b) : (Proc.scVector ((L 0).castLE hcore0) ((L 1).castLE hsub0)).devRef a ≠ (Proc.scVector ((L 0).castLE hcore0) ((L 1).castLE hsub0)).devRef b :=
  fun e => h (Proc.devRef_injective _ e)

/-- A tile's own buffers other than the five scratch buffers. -/
def restBufs : sProp 𝕄 := bigSep ((((((ownRefs (τ := τ) (.scVector ((L 0).castLE hcore0) ((L 1).castLE hsub0))).erase ((Proc.scVector ((L 0).castLE hcore0) ((L 1).castLE hsub0)).devRef cc0_scratch0)).erase ((Proc.scVector ((L 0).castLE hcore0) ((L 1).castLE hsub0)).devRef cc0_scratch1)).erase ((Proc.scVector ((L 0).castLE hcore0) ((L 1).castLE hsub0)).devRef cc0_scratch2)).erase ((Proc.scVector ((L 0).castLE hcore0) ((L 1).castLE hsub0)).devRef cc0_scratch3)).erase ((Proc.scVector ((L 0).castLE hcore0) ((L 1).castLE hsub0)).devRef cc0_scratch4)) fun b => iprop(∃ f, ((d, b) : Loc nD τ sig) ↦{fullShare} f)

omit [FloatOps F] in
/-- A tile's own buffers are the five scratch buffers and the rest. -/
theorem ownBufs_V :
    (ownBufs (thr L d) : sProp 𝕄)
      = iprop((∃ f, (thr L d).loc cc0_scratch0 ↦{fullShare} f) ∗ (∃ f, bA L d f) ∗ (∃ f, bB L d f) ∗ (∃ f, bX L d f) ∗ (∃ f, bO L d f) ∗ restBufs L d) := by
  unfold SparseCore.Cfg.ownBufs restBufs
  refine (SparseCore.bigSep_erase' (SparseCore.Cfg.mem_ownRefs_of_owner (p := Proc.scVector ((L 0).castLE hcore0) ((L 1).castLE hsub0)) (b := (Proc.scVector ((L 0).castLE hcore0) ((L 1).castLE hsub0)).devRef cc0_scratch0) rfl)).trans ?_
  rw [SparseCore.bigSep_erase' (Finset.mem_erase.mpr ⟨ref_ne L (show (cc0_scratch1 : Ref sig .scVector) ≠ cc0_scratch0 by decide), (SparseCore.Cfg.mem_ownRefs_of_owner (p := Proc.scVector ((L 0).castLE hcore0) ((L 1).castLE hsub0)) (b := (Proc.scVector ((L 0).castLE hcore0) ((L 1).castLE hsub0)).devRef cc0_scratch1) rfl)⟩),
    SparseCore.bigSep_erase' (Finset.mem_erase.mpr ⟨ref_ne L (show (cc0_scratch2 : Ref sig .scVector) ≠ cc0_scratch1 by decide), (Finset.mem_erase.mpr ⟨ref_ne L (show (cc0_scratch2 : Ref sig .scVector) ≠ cc0_scratch0 by decide), (SparseCore.Cfg.mem_ownRefs_of_owner (p := Proc.scVector ((L 0).castLE hcore0) ((L 1).castLE hsub0)) (b := (Proc.scVector ((L 0).castLE hcore0) ((L 1).castLE hsub0)).devRef cc0_scratch2) rfl)⟩)⟩),
    SparseCore.bigSep_erase' (Finset.mem_erase.mpr ⟨ref_ne L (show (cc0_scratch3 : Ref sig .scVector) ≠ cc0_scratch2 by decide), (Finset.mem_erase.mpr ⟨ref_ne L (show (cc0_scratch3 : Ref sig .scVector) ≠ cc0_scratch1 by decide), (Finset.mem_erase.mpr ⟨ref_ne L (show (cc0_scratch3 : Ref sig .scVector) ≠ cc0_scratch0 by decide), (SparseCore.Cfg.mem_ownRefs_of_owner (p := Proc.scVector ((L 0).castLE hcore0) ((L 1).castLE hsub0)) (b := (Proc.scVector ((L 0).castLE hcore0) ((L 1).castLE hsub0)).devRef cc0_scratch3) rfl)⟩)⟩)⟩),
    SparseCore.bigSep_erase' (Finset.mem_erase.mpr ⟨ref_ne L (show (cc0_scratch4 : Ref sig .scVector) ≠ cc0_scratch3 by decide), (Finset.mem_erase.mpr ⟨ref_ne L (show (cc0_scratch4 : Ref sig .scVector) ≠ cc0_scratch2 by decide), (Finset.mem_erase.mpr ⟨ref_ne L (show (cc0_scratch4 : Ref sig .scVector) ≠ cc0_scratch1 by decide), (Finset.mem_erase.mpr ⟨ref_ne L (show (cc0_scratch4 : Ref sig .scVector) ≠ cc0_scratch0 by decide), (SparseCore.Cfg.mem_ownRefs_of_owner (p := Proc.scVector ((L 0).castLE hcore0) ((L 1).castLE hsub0)) (b := (Proc.scVector ((L 0).castLE hcore0) ((L 1).castLE hsub0)).devRef cc0_scratch4) rfl)⟩)⟩)⟩)⟩)]

/-- The whole result, as a flat array, from the packed tables and the indices. -/
def outF (P : FVec F S16 .f32) (X : IVec S3276800 32) : FVec F S6553600 .f32 := interleave rfl (tabA P) (tabB P) X

/-- What one tile is given: its indices, a share of the packed tables, and its part of the result. -/
abbrev tileIn (P : FVec F S16 .f32) (X : IVec S3276800 32) (fo : FVec F S6553600 .f32) (q : PosShare TreeShare) (c s : ℕ) : sProp 𝕄 :=
  iprop((xLoc d ↦[xPart c s]{fullShare} X) ∗ (pLoc d ↦{q} P) ∗ (oLoc d ↦[oPart c s]{fullShare} fo))

/-- A tile, given its parts, runs to its end and gives them back with its part of the result written. -/
theorem tile_body (hF : (K (F := F)).Facts) (P : FVec F S16 .f32) (X : IVec S3276800 32) (hX : ∀ j, (X j).toNat < 4) (fo : FVec F S6553600 .f32) (q : PosShare TreeShare)
    (O : CellTallies nD τ sig (HIx 1)) (W : Waits sig (HIx 1)) (hO : ∀ g, O g none = 0) :
    iprop(levAts (K (F := F)).L (K (F := F)).lev ∗ emp ∗ tileIn d P X fo q (L 0).val (L 1).val
        ∗ scopedBufs (thr L d) ∗ scopedSems0 (thr L d) ∗ owes (thr L d) O W)
      ⊢ wp frame (wpE (defs₀ (F := F)) 𝒱₀ (thr L d) none) Set.univ (cc0_sc_kernel (F := F) L aX (whole _) aP (whole _) aO (whole _) sP (whole _) sA (whole _) sB (whole _) sX (whole _) sO (whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20)
          fun _ => iprop(tileIn d P X (outF P X) q (L 0).val (L 1).val ∗ scopedBufs (thr L d) ∗ scopedSems0 (thr L d)
            ∗ ∃ W', ⌜∀ p ∈ W', p ∈ W ∨ p.2 = none⌝ ∗ owes (thr L d) O W') := by
  rw [kernel_eq, (K (F := F)).scopedBufs_V hF d _ _, SparseCore.Cfg.scopedSems0_V (Val := Elt F) d _ _, ownBufs_V]
  iintro ⟨#Hlv, -, ⟨HX, HP, HO⟩, ⟨HsP, HA, HB, HsX, HsO, Hrest⟩, Hsems, Howes⟩
  rw [wp_bind]
  iapply (wp_wand _ _ _) $$ [HP HsP HA HB Hsems Howes]
  · iapply (prologue_ok L d P q (O := O) (W := W) hO)
    isplitr; · iexact Hlv
    isplitl [HP]; · iexact HP
    isplitl [HsP]; · iexact HsP
    isplitl [HA]; · iexact HA
    isplitl [HB]; · iexact HB
    isplitl [Hsems]; · iexact Hsems
    unfold owesAny
    iexists W; isplitr
    · ipureintro; exact fun p hp => .inl hp
    · iexact Howes
  iintro %u ⟨HP, HsP, HA, HB, Hsems, Howes⟩
  iapply (wp_wand _ _ _) $$ [HX HO HA HB HsX HsO Hsems Howes]
  · iapply (chunks_ok L d (tabA P) (tabB P) X hX hO)
    unfold St
    isplitr; · iexact Hlv
    isplitl [HX]; · iexact HX
    isplitl [HA]; · iexact HA
    isplitl [HB]; · iexact HB
    isplitl [HsX]; · iexact HsX
    isplitl [HsO]; · iexact HsO
    isplitl [HO]
    · iexists fo; isplitr
      · ipureintro; intro j h1 h2; omega
      · iexact HO
    isplitl [Hsems] <;> iassumption
  iintro %u' Hst
  unfold St owesAny
  icases Hst with ⟨-, HX, HA, HB, HsX, HsO, ⟨%fo', %hfo', HO⟩, Hsems, Howes⟩
  isplitl [HX HP HO]
  · isplitl [HX]; · iexact HX
    isplitl [HP]; · iexact HP
    have e : (oLoc d ↦[oPart (L 0).val (L 1).val]{fullShare} fo' : sProp 𝕄) = (oLoc d ↦[oPart (L 0).val (L 1).val]{fullShare} outF P X) :=
      pointsTo_congr fun j hj => by
        have := (Finset.mem_filter.mp hj).2
        exact hfo' j (by omega) (by omega)
    rw [← e]; iexact HO
  isplitr [Hsems Howes]
  · isplitl [HsP]; · iexact HsP
    isplitl [HA]; · iexists _; iexact HA
    isplitl [HB]; · iexists _; iexact HB
    isplitl [HsX]; · iexact HsX
    isplitl [HsO]; · iexact HsO
    iexact Hrest
  isplitl [Hsems] <;> iassumption

end Cert.Proof.Kernel
end
-- ==== Proof.KLaunch.lean ====
module

public import proofs.«01_k».proof.Proof.KTile

@[expose] public section

noncomputable section

/-! # From one tile to the whole program

The program reshapes the indices and packs the tables on the TensorCore, deals the arrays among the 32
vector subcores, and reshapes what they wrote. This file proves that the whole program ends with every
array at the contents named by `Vend`. -/

namespace Cert.Proof.Kernel

open Cert.Kernel Cert.Kernel.Gen

open Idealize.ShloMosaic
open Idealize.ShloMosaic.SparseCore (S V T)
open Idealize.ShloMosaic.SparseCore.Cfg (HIx Pay)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- All of the program's procedures. -/
abbrev D : Defs nD τ sig (Elt F) (ΛP (F := F)) := Pipeline.defs pcfgs defs₀
/-- No loop is measured by a variant. -/
abbrev 𝒱 : Variants := 𝒱₀.lift
/-- The one variant there is. -/
abbrev v₀ : 𝒱.V := Sum.inl none

/-- The launch's side conditions on its semaphores hold. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## Dealing the arrays -/

/-- A tile's core and its number there. -/
abbrev Tile : Type := Fin 2 × Fin 16

/-- Two tiles with the same number are the same tile. -/
theorem tile_ext {a b : Tile} (h : 2 * a.2.val + a.1.val = 2 * b.2.val + b.1.val) : a = b := by
  have := a.1.isLt; have := b.1.isLt
  exact Prod.ext (Fin.ext (by omega)) (Fin.ext (by omega))

/-- Every position of the index array lies in some tile's piece. -/
theorem cover_x : (Finset.univ.biUnion fun a : Tile => xPart a.1.val a.2.val) = Finset.univ := by
  refine Finset.eq_univ_iff_forall.mpr fun (j : S3276800.Idx) => Finset.mem_biUnion.mpr ?_
  have hj : (j 0).val < 3276800 := (j 0).isLt
  exact ⟨(⟨(j 0).val / 102400 % 2, by omega⟩, ⟨(j 0).val / 102400 / 2, by omega⟩), Finset.mem_univ _,
    Finset.mem_filter.mpr ⟨Finset.mem_univ _, by show (j 0).val / 102400 = 2 * ((j 0).val / 102400 / 2) + (j 0).val / 102400 % 2; omega⟩⟩

/-- No position lies in two tiles' pieces. -/
theorem apart_x : ∀ a ∈ (Finset.univ : Finset Tile), ∀ b ∈ (Finset.univ : Finset Tile), a ≠ b →
    Disjoint (xPart a.1.val a.2.val) (xPart b.1.val b.2.val) := by
  intro a _ b _ hab
  refine Finset.disjoint_left.mpr fun j hja hjb => hab (tile_ext ?_)
  exact ((Finset.mem_filter.mp hja).2).symm.trans (Finset.mem_filter.mp hjb).2

omit [FloatOps F] in
/-- The index array is its 32 pieces. -/
theorem deal_x (d : Dev nD) (X : IVec S3276800 32) :
    (xLoc d ↦{fullShare} X : sProp 𝕄)
      = bigSep Finset.univ fun c : Fin 2 => bigSep Finset.univ fun i : Fin 16 => xLoc d ↦[xPart c.val i.val]{fullShare} X := by
  rw [← bigSep_univ_prod fun a : Tile => (xLoc d ↦[xPart a.1.val a.2.val]{fullShare} X : sProp 𝕄),
    ← pointsTo_biUnion (ℓ := xLoc d) Finset.univ (fun a : Tile => xPart a.1.val a.2.val) apart_x, cover_x]

/-- Every position of the result array lies in some tile's piece. -/
theorem cover_o : (Finset.univ.biUnion fun a : Tile => oPart a.1.val a.2.val) = Finset.univ := by
  refine Finset.eq_univ_iff_forall.mpr fun (j : S6553600.Idx) => Finset.mem_biUnion.mpr ?_
  have hj : (j 0).val < 6553600 := (j 0).isLt
  exact ⟨(⟨(j 0).val / 204800 % 2, by omega⟩, ⟨(j 0).val / 204800 / 2, by omega⟩), Finset.mem_univ _,
    Finset.mem_filter.mpr ⟨Finset.mem_univ _, by show (j 0).val / 204800 = 2 * ((j 0).val / 204800 / 2) + (j 0).val / 204800 % 2; omega⟩⟩

/-- No position lies in two tiles' pieces. -/
theorem apart_o : ∀ a ∈ (Finset.univ : Finset Tile), ∀ b ∈ (Finset.univ : Finset Tile), a ≠ b →
    Disjoint (oPart a.1.val a.2.val) (oPart b.1.val b.2.val) := by
  intro a _ b _ hab
  refine Finset.disjoint_left.mpr fun j hja hjb => hab (tile_ext ?_)
  exact ((Finset.mem_filter.mp hja).2).symm.trans (Finset.mem_filter.mp hjb).2

omit [FloatOps F] in
/-- The result array is its 32 pieces. -/
theorem deal_o (d : Dev nD) (f : FVec F S6553600 .f32) :
    (oLoc d ↦{fullShare} f : sProp 𝕄)
      = bigSep Finset.univ fun c : Fin 2 => bigSep Finset.univ fun i : Fin 16 => oLoc d ↦[oPart c.val i.val]{fullShare} f := by
  rw [← bigSep_univ_prod fun a : Tile => (oLoc d ↦[oPart a.1.val a.2.val]{fullShare} f : sProp 𝕄),
    ← pointsTo_biUnion (ℓ := oLoc d) Finset.univ (fun a : Tile => oPart a.1.val a.2.val) apart_o, cover_o]

/-- The part of the packed tables' ownership that a tile reads with. -/
def share (c : Fin 2) (i : Fin 16) : PosShare TreeShare :=
  Transfers.dealOf (Transfers.dealOf fullShare Finset.univ c) Finset.univ i

/-- The packed tables are read by all 32 tiles at once, each with its share. -/
theorem deal_p (d : Dev nD) (P : FVec F S16 .f32) :
    (pLoc d ↦{fullShare} P : sProp 𝕄)
      = bigSep Finset.univ fun c : Fin 2 => bigSep Finset.univ fun i : Fin 16 => pLoc d ↦{share c i} P := by
  rw [Transfers.pointsTo_deal (Finset.univ : Finset (Fin 2)) ⟨0, Finset.mem_univ _⟩ fullShare]
  exact bigSep_congr fun c _ => Transfers.pointsTo_deal (Finset.univ : Finset (Fin 16)) ⟨0, Finset.mem_univ _⟩ _

/-- All tiles' parts of the three arrays. -/
def tiles (d : Dev nD) (P : FVec F S16 .f32) (X : IVec S3276800 32) (f : FVec F S6553600 .f32) : sProp 𝕄 :=
  bigSep Finset.univ fun c : Fin 2 => bigSep Finset.univ fun i : Fin 16 => tileIn d P X f (share c i) c.val i.val

/-- The three arrays held whole are the tiles' parts of them. -/
theorem tiles_eq (d : Dev nD) (P : FVec F S16 .f32) (X : IVec S3276800 32) (f : FVec F S6553600 .f32) :
    (iprop((xLoc d ↦{fullShare} X) ∗ (pLoc d ↦{fullShare} P) ∗ (oLoc d ↦{fullShare} f)) : sProp 𝕄) = tiles d P X f := by
  rw [deal_x, deal_p, deal_o, ← bigSep_sep', ← bigSep_sep']
  refine bigSep_congr fun c _ => ?_
  rw [← bigSep_sep', ← bigSep_sep']

/-! ## The contents of the TensorCore's arrays -/

/-- The indices given. -/
abbrev A0 : DevRef τ sig := Proc.devRef .tc (main_arg0 : Ref sig .tc)
/-- The table given. -/
abbrev A1 : DevRef τ sig := Proc.devRef .tc (main_arg1 : Ref sig .tc)
/-- The matrix given. -/
abbrev A2 : DevRef τ sig := Proc.devRef .tc (main_arg2 : Ref sig .tc)
/-- The bias given. -/
abbrev A3 : DevRef τ sig := Proc.devRef .tc (main_arg3 : Ref sig .tc)
/-- The indices as a flat array. -/
abbrev B0 : DevRef τ sig := Proc.devRef .tc (main_v0 : Ref sig .tc)
/-- The table as a flat array. -/
abbrev B1 : DevRef τ sig := Proc.devRef .tc (main_v1 : Ref sig .tc)
/-- The matrix as a flat array. -/
abbrev B2 : DevRef τ sig := Proc.devRef .tc (main_v2 : Ref sig .tc)
/-- A zero. -/
abbrev Bc : DevRef τ sig := Proc.devRef .tc (main_cst : Ref sig .tc)
/-- Two zeros. -/
abbrev B3 : DevRef τ sig := Proc.devRef .tc (main_v3 : Ref sig .tc)
/-- The packed tables. -/
abbrev B4 : DevRef τ sig := Proc.devRef .tc (main_v4 : Ref sig .tc)
/-- The result as a flat array. -/
abbrev B5 : DevRef τ sig := Proc.devRef .tc (main_v5 : Ref sig .tc)
/-- The result. -/
abbrev B6 : DevRef τ sig := Proc.devRef .tc (main_v6 : Ref sig .tc)

/-- Every array of the TensorCore's program. -/
abbrev All : Finset (DevRef τ sig) := {A0, A1, A2, A3, B0, B1, B2, Bc, B3, B4, B5, B6}
/-- The three arrays the SparseCore call is given. -/
abbrev Given : Finset (DevRef τ sig) := {B0, B4, B5}

/-- Flatten the indices. -/
abbrev op0 : HloOp τ sig (Elt F) := StableHlo.reshape main_arg0 main_v0 (rfl : (.i32 : EltTy) = .i32) shapeCasts_S16384x200_S3276800
/-- Flatten the table. -/
abbrev op1 : HloOp τ sig (Elt F) := StableHlo.reshape main_arg1 main_v1 (rfl : (.f32 : EltTy) = .f32) shapeCasts_S4x2_S8
/-- Flatten the matrix. -/
abbrev op2 : HloOp τ sig (Elt F) := StableHlo.reshape main_arg2 main_v2 (rfl : (.f32 : EltTy) = .f32) shapeCasts_S2x2_S4
/-- Make a zero. -/
abbrev opc : HloOp τ sig (Elt F) := StableHlo.nullary main_cst (constant S_ .f32 0x00000000#32)
/-- Make two zeros of it. -/
abbrev op3 : HloOp τ sig (Elt F) := StableHlo.unary main_cst main_v3 (broadcastInDim S2 ![] bcast_S_S2 : (⟨S_, .f32⟩ : BufTy).Contents (Elt F) → (⟨S2, .f32⟩ : BufTy).Contents (Elt F))
/-- Pack the tables one after another. -/
abbrev op4 : HloOp τ sig (Elt F) := StableHlo.nary ![main_v1, main_v2, main_arg3, main_v3] main_v4 (fun u => (concatenate S16 0 [⟨S8, (u 0 : (⟨S8, .f32⟩ : BufTy).Contents (Elt F))⟩, ⟨S4, (u 1 : (⟨S4, .f32⟩ : BufTy).Contents (Elt F))⟩, ⟨S2, (u 2 : (⟨S2, .f32⟩ : BufTy).Contents (Elt F))⟩, ⟨S2, (u 3 : (⟨S2, .f32⟩ : BufTy).Contents (Elt F))⟩] concatenates_S8_S4_S2_S2_S16_d0 : (⟨S16, .f32⟩ : BufTy).Contents (Elt F)))
/-- Give the result its shape. -/
abbrev op6 : HloOp τ sig (Elt F) := StableHlo.reshape main_v5 main_v6 (rfl : (.f32 : EltTy) = .f32) shapeCasts_S6553600_S16384x200x2

variable (m : (ℓ : Loc nD τ sig) → Buf (Elt F) ℓ) (ρ : Dev nD → PrngReg)

/-- The arrays at the start. -/
def Vbegin (d : Dev nD) : Valuation τ sig (Elt F) := fun b => m (d, b)
/-- The arrays when the SparseCore call is made. -/
def Vcall (d : Dev nD) : Valuation τ sig (Elt F) :=
  (op4 (F := F)).result ((op3 (F := F)).result ((opc (F := F)).result ((op2 (F := F)).result ((op1 (F := F)).result ((op0 (F := F)).result (Vbegin m d))))))
/-- The indices as the call finds them. -/
def Xv (d : Dev nD) : IVec S3276800 32 := Vcall m d B0
/-- The packed tables as the call finds them. -/
def Pv (d : Dev nD) : FVec F S16 .f32 := Vcall m d B4
/-- The unwritten result as the call finds it. -/
def Ov (d : Dev nD) : FVec F S6553600 .f32 := Vcall m d B5
/-- The arrays when the call has returned. -/
def Vback (d : Dev nD) : Valuation τ sig (Elt F) := Function.update (Vcall m d) B5 (outF (Pv m d) (Xv m d))
/-- The arrays at the end. -/
def Vend (d : Dev nD) : Valuation τ sig (Elt F) := (op6 (F := F)).result (Vback m d)

omit [FloatOps F] in
/-- The three given arrays, one by one. -/
theorem held_given (d : Dev nD) (W : Valuation τ sig (Elt F)) :
    (held (T d) Given W : sProp 𝕄) = iprop((xLoc d ↦{fullShare} W B0) ∗ (pLoc d ↦{fullShare} W B4) ∗ (oLoc d ↦{fullShare} W B5)) := by
  unfold held Given
  rw [SparseCore.bigSep_insert' (by decide), SparseCore.bigSep_insert' (by decide), bigSep_singleton]

/-- At the call the given arrays are the tiles' parts, the result still unwritten. -/
theorem held_call (d : Dev nD) : (held (T d) All (Vcall m d) : sProp 𝕄)
    = iprop(tiles d (Pv m d) (Xv m d) (Ov m d) ∗ held (T d) (All \ Given) (Vcall m d)) := by
  rw [held_sub_split (T d) (show Given ⊆ All by decide), held_given, ← tiles_eq]
  rfl

/-- When it returns they are the tiles' parts with the result written. -/
theorem held_back (d : Dev nD) : (held (T d) All (Vback m d) : sProp 𝕄)
    = iprop(tiles d (Pv m d) (Xv m d) (outF (Pv m d) (Xv m d)) ∗ held (T d) (All \ Given) (Vcall m d)) := by
  rw [held_sub_split (T d) (show Given ⊆ All by decide), held_given, ← tiles_eq,
    held_congr (T d) (S := All \ Given) (V := Vback m d) (V' := Vcall m d) fun b hb =>
      Function.update_of_ne (fun e => (Finset.mem_sdiff.mp hb).2 (by rw [e]; decide)) _ _]
  unfold Vback
  rw [Function.update_of_ne (show B0 ≠ B5 by decide), Function.update_of_ne (show B4 ≠ B5 by decide), Function.update_self]
  rfl

omit [FloatOps F] in
/-- The arrays a TensorCore is given at the start are all of its program's. -/
theorem held_begin (d : Dev nD) : (unscopedBufs d (fun b => m ((SparseCore.T d).loc b)) : sProp 𝕄) = held (T d) All (Vbegin m d) := by
  unfold unscopedBufs held All
  rw [show (Finset.univ.filter fun b : Ref sig .tc => ¬ b.isScoped)
      = {main_arg0, main_arg1, main_arg2, main_arg3, main_v0, main_v1, main_v2, main_cst, main_v3, main_v4, main_v5, main_v6} by decide]
  iterate 11 rw [SparseCore.bigSep_insert' (by decide)]
  rw [bigSep_singleton]
  iterate 11 rw [SparseCore.bigSep_insert' (by decide)]
  rw [bigSep_singleton]
  rfl

/-! ## The call -/

/-- The launch uses all cores. -/
theorem nCore_zero : (K (F := F)).nCore 0 = 2 := rfl
/-- The launch uses all tiles of a core. -/
theorem nSub_zero : (K (F := F)).nSub 0 = 16 := rfl

/-- What a tile's task is handed (`f` the result array's contents): its part of the three arrays. -/
abbrev task (d : Dev nD) (f : FVec F S6553600 .f32) (c : Fin 2) (i : Fin 16) : sProp 𝕄 :=
  tileIn d (Pv m d) (Xv m d) f (share c i) c.val i.val

/-- What the call's signals carry: the tiles' parts, out unwritten and back written. -/
def P : (K (F := F)).Pay (nD := nD) (Val := Elt F) (Name := ℕ) (U := UU) where
  st := fun q d c => match q with
    | 0 => bigSep Finset.univ fun i : Fin 16 => task m d (Ov m d) (Fin.cast nCore_zero c) i
  dn := fun q d c => match q with
    | 0 => bigSep Finset.univ fun i : Fin 16 => task m d (outF (Pv m d) (Xv m d)) (Fin.cast nCore_zero c) i
  go := fun q d c i => match q with
    | 0 => task m d (Ov m d) (Fin.cast nCore_zero c) (Fin.cast nSub_zero i)
  td := fun q d c i => match q with
    | 0 => task m d (outF (Pv m d) (Xv m d)) (Fin.cast nCore_zero c) (Fin.cast nSub_zero i)
  x := fun _ _ => iprop(emp)

/-- The payloads handed over can be kept in an invariant. -/
instance P_storable : (P (F := F) m).IsStorable where
  st q d c := match q with
    | 0 => (inferInstance : BI.Storable (upEmb : UEmb _ 𝕄) (bigSep Finset.univ fun i : Fin 16 => task m d (Ov m d) (Fin.cast nCore_zero c) i))
  dn q d c := match q with
    | 0 => (inferInstance : BI.Storable (upEmb : UEmb _ 𝕄) (bigSep Finset.univ fun i : Fin 16 => task m d (outF (Pv m d) (Xv m d)) (Fin.cast nCore_zero c) i))
  go q d c i := match q with
    | 0 => (inferInstance : BI.Storable (upEmb : UEmb _ 𝕄) (task m d (Ov m d) (Fin.cast nCore_zero c) (Fin.cast nSub_zero i)))
  td q d c i := match q with
    | 0 => (inferInstance : BI.Storable (upEmb : UEmb _ 𝕄) (task m d (outF (Pv m d) (Xv m d)) (Fin.cast nCore_zero c) (Fin.cast nSub_zero i)))

/-- A SparseCore's sequencer has only to pass its tiles' parts on, and to collect them. -/
theorem vecSplit : (K (F := F)).VecSplit' (P m) 0 := by
  intro d c
  change (bigSep Finset.univ fun i : Fin 16 => task m d (Ov m d) (Fin.cast nCore_zero c) i)
    ⊢ |={Set.univ}=> iprop((bigSep Finset.univ fun i : Fin 16 => task m d (Ov m d) (Fin.cast nCore_zero c) i)
      ∗ ((bigSep Finset.univ fun i : Fin 16 => task m d (outF (Pv m d) (Xv m d)) (Fin.cast nCore_zero c) i)
        -∗ bigSep Finset.univ fun i : Fin 16 => task m d (outF (Pv m d) (Xv m d)) (Fin.cast nCore_zero c) i))
  iintro H; imodintro
  isplitl [H]; · iexact H
  iintro H; iexact H

/-- The coordinates of a tile's thread. -/
def coordsV (c : Fin (grid0.bound 0)) (s : Fin (grid0.bound 1)) : grid0.Coords :=
  fun | 0 => c | 1 => s | ⟨_ + 2, h⟩ => absurd h (Nat.not_lt.2 (Nat.le_add_left _ _))

/-- The procedure a tile runs. -/
theorem defs₀_vector (c : Fin τ.nSC) (s : Fin τ.nSub) :
    defs₀ (F := F) (.scVector c s) 0 ()
      = SparseCore.onTile hcore0 hsub0 (fun c s => cc0_sc_kernel (coordsV c s) aX (whole _) aP (whole _) aO (whole _) sP (whole _) sA (whole _) sB (whole _) sX (whole _) sO (whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20) ⟨⟩ c s := rfl

omit [FloatOps F] in
/-- A task that waited only on semaphores of its own meets the launch's weaker account of its waits. -/
theorem waits_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %h, HO⟩
  isplitl [HA]; · iexact HA
  isplitl [HB]; · iexact HB
  isplitl [HC]; · iexact HC
  iexists W'
  isplitr; · ipureintro; exact fun p hp => (h p hp).imp_right Or.inl
  iexact HO

/-- Every tile's task runs from its part of the arrays to that part written. -/
theorem tileObl (hX : ∀ d j, (Xv m d j).toNat < 4) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (coordsV ⟨_, hc.1⟩ ⟨_, hc.2⟩) d facts (Pv m d) (Xv m d) (hX d) (Ov m d) _ O W hO).trans
    (wp_mono frame _ _ fun _ => waits_weaken)

/-- The launch's ghost element. -/
def u₀ : UU := (initOf (K (F := F)).hsCells (K (F := F)).hsToks, 1)

omit [FloatOps F] in
/-- Nothing, many times over, is nothing. -/
theorem nothing {I : Type} (s : Finset I) : (bigSep s fun _ => iprop(emp)) = (iprop(emp) : sProp 𝕄) := bigSep_emp_const s

/-- The ghost state the run begins with is a valid one. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), nothing]
  iempintro

/-! ## The TensorCore's program -/

/-- It runs from the arrays at the start to the arrays at `Vend`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ held (T d) All (Vend m d) ∗ (K (F := F)).tcEnd d) := by
  unfold SparseCore.Cfg.tcRes SparseCore.Cfg.tcEnd
  rw [held_begin]
  simp only [main, wp_bind, wp_pure]
  iintro ⟨#Hctx, Hst, ⟨Hb, Hh, Hts, -⟩, -⟩
  iapply (wp_hlo_within 𝒱 (SparseCore.T d) none Set.univ (op := op0) (S := All) (show ({A0, B0} : Finset (DevRef τ sig)) ⊆ All by decide)) $$ [Hb Hh]
  · isplitl [Hb] <;> iassumption
  iintro ⟨Hb, Hh⟩
  rw [wp_ret]; imodintro
  iapply (wp_hlo_within 𝒱 (SparseCore.T d) none Set.univ (op := op1) (S := All) (show ({A1, B1} : Finset (DevRef τ sig)) ⊆ All by decide)) $$ [Hb Hh]
  · isplitl [Hb] <;> iassumption
  iintro ⟨Hb, Hh⟩
  rw [wp_ret]; imodintro
  iapply (wp_hlo_within 𝒱 (SparseCore.T d) none Set.univ (op := op2) (S := All) (show ({A2, B2} : Finset (DevRef τ sig)) ⊆ All by decide)) $$ [Hb Hh]
  · isplitl [Hb] <;> iassumption
  iintro ⟨Hb, Hh⟩
  rw [wp_ret]; imodintro
  iapply (wp_hlo_within 𝒱 (SparseCore.T d) none Set.univ (op := opc) (S := All) (show ({Bc} : Finset (DevRef τ sig)) ⊆ All by decide)) $$ [Hb Hh]
  · isplitl [Hb] <;> iassumption
  iintro ⟨Hb, Hh⟩
  rw [wp_ret]; imodintro
  iapply (wp_hlo_within 𝒱 (SparseCore.T d) none Set.univ (op := op3) (S := All) (show ({Bc, B3} : Finset (DevRef τ sig)) ⊆ All by decide)) $$ [Hb Hh]
  · isplitl [Hb] <;> iassumption
  iintro ⟨Hb, Hh⟩
  rw [wp_ret]; imodintro
  iapply (wp_hlo_within 𝒱 (SparseCore.T d) none Set.univ (op := op4) (S := All)
    (show insert B4 (Finset.univ.image fun k : Fin 4 => Proc.devRef (τ := τ) .tc ((![main_v1, main_v2, main_arg3, main_v3] : Fin 4 → Ref sig .tc) k)) ⊆ All by decide)) $$ [Hb Hh]
  · isplitl [Hb] <;> iassumption
  iintro ⟨Hb, Hh⟩
  rw [wp_ret]; imodintro
  have hcall : (held (T d) All ((op4 (F := F)).result ((op3 (F := F)).result ((opc (F := F)).result ((op2 (F := F)).result ((op1 (F := F)).result ((op0 (F := F)).result (Vbegin m d)))))) ) : sProp 𝕄)
      = iprop(tiles d (Pv m d) (Xv m d) (Ov m d) ∗ held (T d) (All \ Given) (Vcall m d)) := held_call m d
  ihave Hh := (Entails.of_eq hcall) $$ Hh
  icases Hh with ⟨Ht, Hrest⟩
  iapply ((K (F := F)).wp_run (D (F := F)) 𝒱 (EH := EH) (P := P m) κ d 0) $$ [Hst Ht Hb Hrest Hts]
  isplitr; · iexact Hctx
  isplitl [Hst]; · iexact Hst
  isplitl [Ht]
  · rw [show (bigSep Finset.univ fun c : Fin ((K (F := F)).nCore 0) => (P m).st 0 d c) = tiles d (Pv m d) (Xv m d) (Ov m d) from rfl]; iexact Ht
  rw [show (bigSep Finset.univ fun c : Fin ((K (F := F)).nCore 0) => (P m).dn 0 d c) = tiles d (Pv m d) (Xv m d) (outF (Pv m d) (Xv m d)) from rfl]
  iintro ⟨Hst, Hdn⟩
  iapply (wp_hlo_within 𝒱 (SparseCore.T d) none Set.univ (op := op6) (S := All) (show ({B5, B6} : Finset (DevRef τ sig)) ⊆ All by decide) (V := Vback m d)) $$ [Hb Hdn Hrest]
  · isplitl [Hb]; · iexact Hb
    rw [held_back]
    isplitl [Hdn]; · iexact Hdn
    iexact Hrest
  iintro ⟨Hb, Hh⟩
  rw [wp_ret]; imodintro; imodintro
  isplitl [Hst]; · iexact Hst
  isplitl [Hh]; · iexact Hh
  isplitl [Hb] <;> iassumption

/-! ## The run -/

omit [FloatOps F] in
/-- Arrays held with known contents have those contents in memory. -/
theorem held_agree (d : Dev nD) (W : Valuation τ sig (Elt F)) (s' : Phys nD τ sig (Elt F)) (S : Finset (DevRef τ sig)) :
    iprop(held (T d) S W ∗ SI s') ⊢ (⌜∀ b ∈ S, s'.mem.mem (d, b) = W b⌝ : sProp 𝕄) := by
  classical
  induction S using Finset.induction_on with
  | empty => iintro -; ipureintro; intro b hb; exact absurd hb (Finset.notMem_empty b)
  | insert a S ha ih =>
    unfold held at ih ⊢
    rw [SparseCore.bigSep_insert' ha]
    iintro ⟨⟨Ha, HS⟩, HSI⟩
    ihave H := (persistent_entails_right (SI_pointsTo_agree (st := s') (ℓ := (d, a)) (I := Finset.univ) (q := fullShare) (f := W a))) $$ [HSI Ha]
    · isplitl [HSI] <;> iassumption
    icases H with ⟨%h, HSI, -⟩
    ihave H := ih $$ [HS HSI]
    · isplitl [HS] <;> iassumption
    icases H with %hS
    ipureintro; intro b hb
    rcases Finset.mem_insert.mp hb with rfl | hb
    · exact funext fun i => h i (Finset.mem_univ i)
    · exact hS b hb

/-- The arrays of device `d` are at `Vend`. -/
def Ends (d : Dev nD) (s' : Phys nD τ sig (Elt F)) : Prop := ∀ b ∈ All, s'.mem.mem (d, b) = Vend m d b

/-- What the whole program leaves: every array at `Vend`, every semaphore at zero. -/
def Post : PUnit × MemSt nD τ sig (Elt F) → Prop := fun r => (∀ d : Dev nD, ∀ b ∈ All, r.2.mem (d, b) = Vend m d b) ∧ r.2.sem = fun _ => 0

/-- The whole program, run from any memory whose indices are in range, ends so. -/
theorem run_main [∀ e, Nonempty (Elt F e)] (hX : ∀ d j, (Xv m d j).toNat < 4) :
    θ_run (Cert.Kernel.defs (F := F)) (Cert.Kernel.threads (F := F)) ⟨m, fun _ => 0, ρ⟩ (Post m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hX)
    (fun q _ => match q with | 0 => SparseCore.Cfg.VecSplit.of_plain (vecSplit m))
    m ρ main (fun _ => iprop(emp)) (fun d => held (T d) All (Vend m d)) (u₀ (F := F)) (sep_elim_left.trans (hu₀ m)) (hmain m ρ) (Ends m)
    (fun d s' => held_agree d _ s' All) (Post m) (fun _ h hz => ⟨h, hz⟩)

end Cert.Proof.Kernel

end
-- ==== Proof.Spec.lean ====
module

public import proofs.«01_k».proof.Defs
public import Idealize.ShloMosaic.Lib.ReduceAll
public import Idealize.ShloMosaic.Lib.ValueIdxCore
public import proofs.«01_k».proof.Proof.Gen.Pre_in_vocab

@[expose] public section

noncomputable section

/-! # What both programs compute

Each index picks a row of the 4 × 2 table; the result is that row times the transposed 2 × 2 matrix, plus
the bias. -/

namespace Cert.Proof.Spec

open Idealize.ShloMosaic Idealize.ShloMosaic.ValueIdx

variable {F : FTy → Type} [FloatOps F]

/-- The table row an index word picks. -/
def row (w : BitVec 32) : Fin 4 := ⟨w.toNat % 4, Nat.mod_lt _ (by decide)⟩

/-- An output feature `o` of the row `k`: two products, their sum, and the bias. -/
def feature (E : FVec F ⟨2, ![4, 2]⟩ .f32) (W : FVec F ⟨2, ![2, 2]⟩ .f32) (b : FVec F ⟨1, ![2]⟩ .f32) (k : Fin 4) (o : Fin 2) : F .f32 :=
  FloatOps.addf (FloatOps.addf (FloatOps.mulf (E (ix2 k 0)) (W (ix2 o 0))) (FloatOps.mulf (E (ix2 k 1)) (W (ix2 o 1)))) (b (ix1 o))

/-- The whole result. -/
def spec (x : IVec ⟨2, ![16384, 200]⟩ 32) (E : FVec F ⟨2, ![4, 2]⟩ .f32) (W : FVec F ⟨2, ![2, 2]⟩ .f32) (b : FVec F ⟨1, ![2]⟩ .f32) :
    FVec F ⟨3, ![16384, 200, 2]⟩ .f32 :=
  fun j => feature E W b (row (x (ix2 (n0 := 16384) (n1 := 200) (j 0) (j 1)))) (j 2)

/-- A word that is signed at least 0 and signed below 4 is below 4 as a natural number. -/
theorem word_small (w : BitVec 32) (h : IntOp.andi (IntOp.cmpi .sge w 0#32) (IntOp.cmpi .slt w 4#32) = 1#1) : w.toNat < 4 := by
  have hand : ((0#32).sle w && w.slt 4#32) = true := by
    cases hc : ((0#32).sle w && w.slt 4#32)
    · simp [IntOp.andi, IntOp.cmpi, hc] at h
    · rfl
  obtain ⟨h0, h4⟩ := (Bool.and_eq_true _ _).mp hand
  rw [BitVec.sle_iff_toInt_le] at h0
  rw [BitVec.slt_iff_toInt_lt] at h4
  rw [show (0#32).toInt = 0 from rfl] at h0
  rw [show (4#32).toInt = 4 from rfl] at h4
  have hc := BitVec.toInt_eq_toNat_cond w
  have := w.isLt
  split at hc <;> omega

/-- Where the precondition holds, every index is below 4. -/
theorem in_range (x : IVec ⟨2, ![16384, 200]⟩ 32) (E : FVec F ⟨2, ![4, 2]⟩ .f32) (W : FVec F ⟨2, ![2, 2]⟩ .f32) (b : FVec F ⟨1, ![2]⟩ .f32)
    (h : Cert.Pre_in_vocab.fn x E W b = fun _ => 1#1) (i : Cert.Pre_in_vocab.S16384x200.Idx) : (x i).toNat < 4 := by
  haveI : Subsingleton Cert.Pre_in_vocab.S_.Idx := ⟨fun a b => funext fun k => k.elim0⟩
  exact word_small _ (Host.reduce_andi_all _ _ _ _ ix0 (congrFun h ix0) i)

end Cert.Proof.Spec

end
-- ==== Proof.KValue.lean ====
module

public import proofs.«01_k».proof.Proof.KLaunch
public import proofs.«01_k».proof.Proof.Spec
public import Idealize.ShloMosaic.Lib.Pipeline.Value

@[expose] public section

noncomputable section

/-! # The kernel, element by element

What `Vend` names: the arguments as they were, and the result as specified. -/

namespace Cert.Proof.Kernel

open Cert.Kernel Cert.Kernel.Gen
open Idealize.ShloMosaic Idealize.ShloMosaic.ValueIdx Idealize.SL.Sem
open Cert.Proof.Spec Cert.Proof.Lookup

variable {F : FTy → Type} [FloatOps F]

/-! ## The packed tables -/

/-- The table, the matrix and the bias one after another, then two zeros. -/
def packed (E : FVec F S4x2 .f32) (W : FVec F S2x2 .f32) (b : FVec F S2 .f32) : FVec F S16 .f32 :=
  concatenate S16 0 [⟨S8, shapeCast S8 E shapeCasts_S4x2_S8⟩, ⟨S4, shapeCast S4 W shapeCasts_S2x2_S4⟩, ⟨S2, b⟩,
    ⟨S2, broadcastInDim S2 ![] bcast_S_S2 (constant S_ .f32 0x00000000#32)⟩] concatenates_S8_S4_S2_S2_S16_d0

section Packed

variable (E : FVec F S4x2 .f32) (W : FVec F S2x2 .f32) (b : FVec F S2 .f32)

/-- Entry `(k, f)` of the table lies at position `2 k + f`. -/
theorem packed_table (k : Fin 4) (f : Fin 2) (n : ℕ) (hn : n < 16) (e : n = 2 * k.val + f.val) : packed E W b (at1 n hn) = E (ix2 k f) := by
  have hk := k.isLt; have hf := f.isLt
  refine (concatenate_apply_piece 0 _ _ (at1 n hn) 0 (by simp) S8 _ rfl rfl 0 rfl (at1 n (by omega)) (fun c hc => absurd (Subsingleton.elim _ _) hc) (by show 0 + n = n; omega)).trans ?_
  refine shapeCast_apply _ _ _ _ ?_
  rw [Shape.rowMajor_val_two, Shape.rowMajor_val_one]
  show k.val * 2 + f.val = n
  omega

/-- Entry `(o, f)` of the matrix lies at position `8 + 2 o + f`. -/
theorem packed_matrix (o f : Fin 2) (n : ℕ) (hn : n < 16) (e : n = 8 + 2 * o.val + f.val) : packed E W b (at1 n hn) = W (ix2 o f) := by
  have ho := o.isLt; have hf := f.isLt
  refine (concatenate_apply_piece 0 _ _ (at1 n hn) 1 (by simp) S4 _ rfl rfl 8 rfl (at1 (n - 8) (by omega)) (fun c hc => absurd (Subsingleton.elim _ _) hc) (by show 8 + (n - 8) = n; omega)).trans ?_
  refine shapeCast_apply _ _ _ _ ?_
  rw [Shape.rowMajor_val_two, Shape.rowMajor_val_one]
  show o.val * 2 + f.val = n - 8
  omega

/-- Entry `o` of the bias lies at position `12 + o`. -/
theorem packed_bias (o : Fin 2) (n : ℕ) (hn : n < 16) (e : n = 12 + o.val) : packed E W b (at1 n hn) = b (ix1 o) := by
  have ho := o.isLt
  exact concatenate_apply_piece 0 _ _ (at1 n hn) 2 (by simp) S2 _ rfl rfl 12 rfl (ix1 o) (fun c hc => absurd (Subsingleton.elim _ _) hc) (by show 12 + o.val = n; omega)

/-- Lane `l` reads its row's first entry at twice the row. -/
theorem even_place (l : Fin 16) : (k0_pay2 (Shape.ofLane (d := ![16]) l)).toNat = 2 * (l.val % 4) := by
  revert l; decide

/-- Lane `l` reads its row's second entry one further. -/
theorem odd_place (l : Fin 16) : (k0_pay3 (Shape.ofLane (d := ![16]) l)).toNat = 2 * (l.val % 4) + 1 := by
  revert l; decide

/-- The same for the lane a word names. -/
theorem even_lane (w : BitVec 32) : (k0_pay2 (lane w)).toNat = 2 * (w.toNat % 4) :=
  (even_place ⟨w.toNat % 16, Nat.mod_lt _ (by decide)⟩).trans (by show 2 * (w.toNat % 16 % 4) = _; omega)

/-- The same for the lane a word names. -/
theorem odd_lane (w : BitVec 32) : (k0_pay3 (lane w)).toNat = 2 * (w.toNat % 4) + 1 :=
  (odd_place ⟨w.toNat % 16, Nat.mod_lt _ (by decide)⟩).trans (by show 2 * (w.toNat % 16 % 4) + 1 = _; omega)

/-- A lane of a lookup, the position read being `n`. -/
theorem load_place (P : FVec F S16 .f32) (ix : IVec S16 32) (h) (l : S16.Idx) (n : ℕ) (hn : n < 16) (e : (ix l).toNat = n) :
    (loadIdx (F := F) (e := .f32) P ![ix] h l : F .f32) = P (at1 n hn) :=
  congrArg P (ext1 e)

/-- The first folded table: output feature 0 of each row. -/
theorem tabA_eq (w : BitVec 32) : entry (tabA (packed E W b)) w = feature E W b (row w) 0 := by
  unfold entry feature tabA k0_pay4
  simp only [addf, mulf]
  rw [load_place _ _ _ (lane w) (2 * (w.toNat % 4)) (by omega) (even_lane w),
    load_place _ _ _ (lane w) (2 * (w.toNat % 4) + 1) (by omega) (odd_lane w),
    load_place _ _ _ (lane w) 8 (by omega) rfl, load_place _ _ _ (lane w) 9 (by omega) rfl, load_place _ _ _ (lane w) 12 (by omega) rfl,
    packed_table E W b (row w) 0 (2 * (w.toNat % 4)) (by omega) rfl, packed_table E W b (row w) 1 (2 * (w.toNat % 4) + 1) (by omega) rfl,
    packed_matrix E W b 0 0 8 (by omega) rfl, packed_matrix E W b 0 1 9 (by omega) rfl, packed_bias E W b 0 12 (by omega) rfl]

/-- The second folded table: output feature 1 of each row. -/
theorem tabB_eq (w : BitVec 32) : entry (tabB (packed E W b)) w = feature E W b (row w) 1 := by
  unfold entry feature tabB k0_pay5
  simp only [addf, mulf]
  rw [load_place _ _ _ (lane w) (2 * (w.toNat % 4)) (by omega) (even_lane w),
    load_place _ _ _ (lane w) (2 * (w.toNat % 4) + 1) (by omega) (odd_lane w),
    load_place _ _ _ (lane w) 10 (by omega) rfl, load_place _ _ _ (lane w) 11 (by omega) rfl, load_place _ _ _ (lane w) 13 (by omega) rfl,
    packed_table E W b (row w) 0 (2 * (w.toNat % 4)) (by omega) rfl, packed_table E W b (row w) 1 (2 * (w.toNat % 4) + 1) (by omega) rfl,
    packed_matrix E W b 1 0 10 (by omega) rfl, packed_matrix E W b 1 1 11 (by omega) rfl, packed_bias E W b 1 13 (by omega) rfl]

/-- The interleaved lookups, given the result's shape, are the specified result. -/
theorem outF_eq (x : IVec S16384x200 32) :
    shapeCast S16384x200x2 (outF (packed E W b) (shapeCast S3276800 x shapeCasts_S16384x200_S3276800)) shapeCasts_S6553600_S16384x200x2
      = spec x E W b := by
  funext j
  have h0 : (j 0).val < 16384 := (j 0).isLt
  have h1 : (j 1).val < 200 := (j 1).isLt
  have h2 : (j 2).val < 2 := (j 2).isLt
  refine (shapeCast_apply _ _ j (at1 (((j 0).val * 200 + (j 1).val) * 2 + (j 2).val) (by omega)) ?_).trans ?_
  · rw [Shape.rowMajor_val_one, Shape.rowMajor_val_three]
    rfl
  have hw : shapeCast S3276800 x shapeCasts_S16384x200_S3276800 (at1 ((((j 0).val * 200 + (j 1).val) * 2 + (j 2).val) / 2) (by omega))
      = x (ix2 (n0 := 16384) (n1 := 200) (j 0) (j 1)) := by
    refine shapeCast_apply _ _ _ _ ?_
    rw [Shape.rowMajor_val_one, Shape.rowMajor_val_two]
    show (j 0).val * 200 + (j 1).val = (((j 0).val * 200 + (j 1).val) * 2 + (j 2).val) / 2
    omega
  unfold outF interleave
  refine (congrArg (entry _) hw).trans ?_
  show entry (if (((j 0).val * 200 + (j 1).val) * 2 + (j 2).val) % 2 = 0 then _ else _) _ = feature E W b _ _
  by_cases hz : (j 2).val = 0
  · rw [if_pos (by omega), tabA_eq]
    exact congrArg (feature E W b _) (Fin.ext hz.symm)
  · rw [if_neg (by omega), tabB_eq]
    exact congrArg (feature E W b _) (Fin.ext (show 1 = (j 2).val by omega))

end Packed

/-! ## The arrays by name -/

variable (m : (ℓ : Loc nD τ sig) → Buf (Elt F) ℓ) (d : Dev nD)

/-- The indices as they begin. -/
abbrev inX : IVec S16384x200 32 := m (d, A0)
/-- The table as it begins. -/
abbrev inE : FVec F S4x2 .f32 := m (d, A1)
/-- The matrix as it begins. -/
abbrev inW : FVec F S2x2 .f32 := m (d, A2)
/-- The bias as it begins. -/
abbrev inB : FVec F S2 .f32 := m (d, A3)

/-- The call is given the reshaped indices. -/
theorem Xv_eq : Xv m d = shapeCast S3276800 (inX m d) shapeCasts_S16384x200_S3276800 := by
  unfold Xv Vcall
  rw [HloOp.result_of_not_mem _ _ (show B0 ∉ ({B4} : Finset (DevRef τ sig)) by decide),
    HloOp.result_of_not_mem _ _ (show B0 ∉ ({B3} : Finset (DevRef τ sig)) by decide),
    HloOp.result_of_not_mem _ _ (show B0 ∉ ({Bc} : Finset (DevRef τ sig)) by decide),
    HloOp.result_of_not_mem _ _ (show B0 ∉ ({B2} : Finset (DevRef τ sig)) by decide),
    HloOp.result_of_not_mem _ _ (show B0 ∉ ({B1} : Finset (DevRef τ sig)) by decide)]
  exact StableHlo.reshape_result ..

/-- The call is given the packed tables. -/
theorem Pv_eq : Pv m d = packed (inE m d) (inW m d) (inB m d) := by
  unfold Pv Vcall
  refine (StableHlo.nary_result ..).trans ?_
  have h1 : (op3 (F := F)).result ((opc (F := F)).result ((op2 (F := F)).result ((op1 (F := F)).result ((op0 (F := F)).result (Vbegin m d))))) B1
      = shapeCast S8 (inE m d) shapeCasts_S4x2_S8 := by
    rw [HloOp.result_of_not_mem _ _ (show B1 ∉ ({B3} : Finset (DevRef τ sig)) by decide),
      HloOp.result_of_not_mem _ _ (show B1 ∉ ({Bc} : Finset (DevRef τ sig)) by decide),
      HloOp.result_of_not_mem _ _ (show B1 ∉ ({B2} : Finset (DevRef τ sig)) by decide)]
    exact StableHlo.reshape_result ..
  have h2 : (op3 (F := F)).result ((opc (F := F)).result ((op2 (F := F)).result ((op1 (F := F)).result ((op0 (F := F)).result (Vbegin m d))))) B2
      = shapeCast S4 (inW m d) shapeCasts_S2x2_S4 := by
    rw [HloOp.result_of_not_mem _ _ (show B2 ∉ ({B3} : Finset (DevRef τ sig)) by decide),
      HloOp.result_of_not_mem _ _ (show B2 ∉ ({Bc} : Finset (DevRef τ sig)) by decide)]
    exact StableHlo.reshape_result ..
  have h3 : (op3 (F := F)).result ((opc (F := F)).result ((op2 (F := F)).result ((op1 (F := F)).result ((op0 (F := F)).result (Vbegin m d))))) A3
      = inB m d := by
    rw [HloOp.result_of_not_mem _ _ (show A3 ∉ ({B3} : Finset (DevRef τ sig)) by decide),
      HloOp.result_of_not_mem _ _ (show A3 ∉ ({Bc} : Finset (DevRef τ sig)) by decide),
      HloOp.result_of_not_mem _ _ (show A3 ∉ ({B2} : Finset (DevRef τ sig)) by decide),
      HloOp.result_of_not_mem _ _ (show A3 ∉ ({B1} : Finset (DevRef τ sig)) by decide),
      HloOp.result_of_not_mem _ _ (show A3 ∉ ({B0} : Finset (DevRef τ sig)) by decide)]
    rfl
  have h4 : (op3 (F := F)).result ((opc (F := F)).result ((op2 (F := F)).result ((op1 (F := F)).result ((op0 (F := F)).result (Vbegin m d))))) B3
      = broadcastInDim S2 ![] bcast_S_S2 (constant (F := F) S_ .f32 0x00000000#32) :=
    by
    refine (StableHlo.unary_result ..).trans ?_
    rw [StableHlo.nullary_result]
  show concatenate S16 0 [⟨S8, (op3 (F := F)).result _ B1⟩, ⟨S4, (op3 (F := F)).result _ B2⟩, ⟨S2, (op3 (F := F)).result _ A3⟩, ⟨S2, (op3 (F := F)).result _ B3⟩] _ = _
  rw [h1, h2, h3, h4]
  rfl

/-- An argument is as it began. -/
theorem Vend_arg (b : DevRef τ sig) (hb : b ∉ ({B0, B1, B2, Bc, B3, B4, B5, B6} : Finset (DevRef τ sig))) : Vend m d b = m (d, b) := by
  simp only [Finset.mem_insert, Finset.mem_singleton, not_or] at hb
  obtain ⟨h0, h1, h2, hc, h3, h4, h5, h6⟩ := hb
  unfold Vend Vback
  rw [HloOp.result_of_not_mem _ _ (show b ∉ ({B6} : Finset (DevRef τ sig)) from fun h => h6 (Finset.mem_singleton.mp h)), Function.update_of_ne h5]
  unfold Vcall
  rw [HloOp.result_of_not_mem _ _ (show b ∉ ({B4} : Finset (DevRef τ sig)) from fun h => h4 (Finset.mem_singleton.mp h)),
    HloOp.result_of_not_mem _ _ (show b ∉ ({B3} : Finset (DevRef τ sig)) from fun h => h3 (Finset.mem_singleton.mp h)),
    HloOp.result_of_not_mem _ _ (show b ∉ ({Bc} : Finset (DevRef τ sig)) from fun h => hc (Finset.mem_singleton.mp h)),
    HloOp.result_of_not_mem _ _ (show b ∉ ({B2} : Finset (DevRef τ sig)) from fun h => h2 (Finset.mem_singleton.mp h)),
    HloOp.result_of_not_mem _ _ (show b ∉ ({B1} : Finset (DevRef τ sig)) from fun h => h1 (Finset.mem_singleton.mp h)),
    HloOp.result_of_not_mem _ _ (show b ∉ ({B0} : Finset (DevRef τ sig)) from fun h => h0 (Finset.mem_singleton.mp h))]
  rfl

/-- The result is what was specified. -/
theorem Vend_result : Vend m d B6 = spec (inX m d) (inE m d) (inW m d) (inB m d) := by
  rw [← outF_eq (inE m d) (inW m d) (inB m d) (inX m d), ← Xv_eq, ← Pv_eq]
  unfold Vend
  refine (StableHlo.reshape_result ..).trans ?_
  unfold Vback
  rw [show Function.update (Vcall m d) B5 (outF (Pv m d) (Xv m d)) (Proc.devRef .tc (main_v5 : Ref sig .tc)) = outF (Pv m d) (Xv m d) from Function.update_self ..]
  rfl

/-- In-range indices are in range after the reshape. -/
theorem Xv_small (hx : ∀ i, (inX m d i).toNat < 4) (j : S3276800.Idx) : (Xv m d j).toNat < 4 := by
  rw [Xv_eq]
  exact hx _

variable [∀ e, Nonempty (Elt F e)]

/-- From in-range indices the program ends with the specified result, its arguments unchanged, and every
semaphore at zero. -/
theorem run (ρ : Dev nD → PrngReg) (hx : ∀ (c : Dev nD) i, (inX m c i).toNat < 4) :
    θ_run (Cert.Kernel.defs (F := F)) (Cert.Kernel.threads (F := F)) ⟨m, fun _ => 0, ρ⟩ (fun r => (∀ c : Dev nD,
      r.2.mem ((c.tc : Thread nD τ).loc main_v6) = spec (inX m c) (inE m c) (inW m c) (inB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run Cert.Kernel.defs _ _).mono (fun r h => ⟨fun c =>
    ⟨(h.1 c B6 (by decide)).trans (Vend_result m c), (h.1 c A0 (by decide)).trans (Vend_arg m c A0 (by decide)),
      (h.1 c A1 (by decide)).trans (Vend_arg m c A1 (by decide)), (h.1 c A2 (by decide)).trans (Vend_arg m c A2 (by decide)),
      (h.1 c A3 (by decide)).trans (Vend_arg m c A3 (by decide))⟩, h.2⟩) (run_main m ρ fun c => Xv_small m c (hx c))

end Cert.Proof.Kernel

end
-- ==== Proof.RValue.lean ====
module

public import proofs.«01_k».proof.Proof.Spec
public import proofs.«01_k».proof.Proof.Gen.ReferenceIdeal
public import proofs.«01_k».proof.Proof.Gen.ReferenceIdeal.Run
public import Idealize.ShloMosaic.PureOps.Ideal.Laws
public import Idealize.ShloMosaic.Lib.Pipeline.Value
public import Idealize.ShloMosaic.Lib.ValueIdx
public import Idealize.ShloMosaic.Lib.Quiescent

@[expose] public section

noncomputable section

/-! # The reference, element by element -/

namespace Cert.Proof.Reference

open Cert.ReferenceIdeal Cert.ReferenceIdeal.Gen
open Idealize.ShloMosaic Idealize.ShloMosaic.ValueIdx Idealize.SL.Sem
open Cert.Proof.Spec

variable {F : FTy → Type} [FloatOps F]

/-- The index words as the reference's lookup uses them: a negative one has 4 added. -/
def wrapped (x : IVec S16384x200 32) : IVec S16384x200 32 :=
  select (cmpi .slt x (broadcastInDim S16384x200 ![] bcast_S_S16384x200 (constantI S_ 32 0#32)))
    (addi x (broadcastInDim S16384x200 ![] bcast_S_S16384x200 (constantI S_ 32 4#32))) x

/-- The same with a unit axis behind. -/
def starts (x : IVec S16384x200 32) : IVec S16384x200x1 32 :=
  broadcastInDim S16384x200x1 ![0, 1] bcast_S16384x200_S16384x200x1_0_1 (wrapped x)

/-- Whether each index is in range. -/
def inside (x : IVec S16384x200 32) : IVec S16384x200 1 :=
  Host.reduce IntOp.andi (andi (cmpi .sge (starts x) (broadcastInDim S16384x200x1 ![] bcast_S_S16384x200x1 (constantI S_ 32 0#32)))
    (cmpi .sle (starts x) (broadcastInDim S16384x200x1 ![0, 1, 2] bcast_S1x1x1_S16384x200x1_0_1_2 (broadcastInDim S1x1x1 ![2] bcast_S1_S1x1x1_2 (constantI S1 32 3#32)))))
    (constantI S_ 1 1#1) reducesTo_S16384x200x1_S16384x200_d2 h_S_

/-- The rows looked up. -/
def taken (x : IVec S16384x200 32) (E : FVec F S4x2 .f32) : FVec F S16384x200x2 .f32 :=
  select (broadcastInDim S16384x200x2 ![0, 1] bcast_S16384x200_S16384x200x2_0_1 (inside x))
    (Host.gather gather_S4x2_S16384x200x1_S16384x200x2_2_0_n_n_0_2_12 E (starts x))
    (broadcastInDim S16384x200x2 ![] bcast_S_S16384x200x2 (constant S_ .f32 0x7FC00000#32))

/-- The reference's result. -/
def value (x : IVec S16384x200 32) (E : FVec F S4x2 .f32) (W : FVec F S2x2 .f32) (b : FVec F S2 .f32) : FVec F S16384x200x2 .f32 :=
  addf (Host.dotGeneral dot_S16384x200x2_S2x2_S16384x200x2_2_0_01_1_n_n none (taken x E) (transpose S2x2 [1, 0] W transposes_S2x2_S2x2_1_0))
    (broadcastInDim S16384x200x2 ![0, 1, 2] bcast_S1x1x2_S16384x200x2_0_1_2 (broadcastInDim S1x1x2 ![2] bcast_S2_S1x1x2_2 b))

/-- A word below 4 is one of four. -/
theorem small_cases (w : BitVec 32) (h : w.toNat < 4) : w = 0#32 ∨ w = 1#32 ∨ w = 2#32 ∨ w = 3#32 := by
  have e : w = BitVec.ofNat 32 w.toNat := by simp
  rcases (show w.toNat = 0 ∨ w.toNat = 1 ∨ w.toNat = 2 ∨ w.toNat = 3 by omega) with h | h | h | h <;> rw [h] at e <;> simp [e]

/-- The coordinates of the left factor in the product's term `k`. -/
theorem left_place (j : S16384x200x2.Idx) (k : Fin 2) :
    dot_S16384x200x2_S2x2_S16384x200x2_2_0_01_1_n_n.lhsIdx j ((contrEquiv1 dot_S16384x200x2_S2x2_S16384x200x2_2_0_01_1_n_n 2 rfl rfl).symm k)
      = ix3 (n0 := 16384) (n1 := 200) (n2 := 2) (j 0) (j 1) k := by
  have hk := contrEquiv1_symm_val dot_S16384x200x2_S2x2_S16384x200x2_2_0_01_1_n_n 2 rfl rfl k
  funext a
  refine Fin.ext ?_
  match a with
  | ⟨0, _⟩ => rfl
  | ⟨1, _⟩ => rfl
  | ⟨2, _⟩ => exact hk

/-- The coordinates of the right factor in the product's term `k`. -/
theorem right_place (j : S16384x200x2.Idx) (k : Fin 2) :
    dot_S16384x200x2_S2x2_S16384x200x2_2_0_01_1_n_n.rhsIdx j ((contrEquiv1 dot_S16384x200x2_S2x2_S16384x200x2_2_0_01_1_n_n 2 rfl rfl).symm k)
      = ix2 (n0 := 2) (n1 := 2) k (j 2) := by
  have hk := contrEquiv1_symm_val dot_S16384x200x2_S2x2_S16384x200x2_2_0_01_1_n_n 2 rfl rfl k
  funext a
  refine Fin.ext ?_
  match a with
  | ⟨0, _⟩ => exact hk
  | ⟨1, _⟩ => rfl

/-- The product of the rows with the transposed matrix, as two terms. -/
theorem product_eq (T : FVec Ideal S16384x200x2 .f32) (W : FVec Ideal S2x2 .f32) (j : S16384x200x2.Idx) :
    Host.dotGeneral dot_S16384x200x2_S2x2_S16384x200x2_2_0_01_1_n_n none T (transpose S2x2 [1, 0] W transposes_S2x2_S2x2_1_0) j
      = FloatOps.addf (F := Ideal) (φ := .f32) (FloatOps.mulf (F := Ideal) (φ := .f32) (T (ix3 (n0 := 16384) (n1 := 200) (n2 := 2) (j 0) (j 1) 0)) (W (ix2 (n0 := 2) (n1 := 2) (j 2) 0)))
          (FloatOps.mulf (F := Ideal) (φ := .f32) (T (ix3 (n0 := 16384) (n1 := 200) (n2 := 2) (j 0) (j 1) 1)) (W (ix2 (n0 := 2) (n1 := 2) (j 2) 1))) := by
  have ht (k : Fin 2) : transpose S2x2 [1, 0] W transposes_S2x2_S2x2_1_0 (ix2 (n0 := 2) (n1 := 2) k (j 2)) = W (ix2 (n0 := 2) (n1 := 2) (j 2) k) :=
    transpose_apply _ _ _ _ _ fun b => match b with | ⟨0, _⟩ => rfl | ⟨1, _⟩ => rfl
  refine (Ideal.dotGeneral_apply dot_S16384x200x2_S2x2_S16384x200x2_2_0_01_1_n_n none _ _ _ j).trans ?_
  rw [← Equiv.sum_comp (contrEquiv1 dot_S16384x200x2_S2x2_S16384x200x2_2_0_01_1_n_n 2 rfl rfl).symm, Fin.sum_univ_two,
    left_place, left_place, right_place, right_place, ht, ht]
  rfl

/-- The bias, spread over the whole result. -/
theorem bias_eq (b : FVec F S2 .f32) (j : S16384x200x2.Idx) :
    broadcastInDim S16384x200x2 ![0, 1, 2] bcast_S1x1x2_S16384x200x2_0_1_2 (broadcastInDim S1x1x2 ![2] bcast_S2_S1x1x2_2 b) j = b (ix1 (n := 2) (j 2)) :=
  (broadcastInDim_apply _ _ _ j (ix3 (n0 := 1) (n1 := 1) (n2 := 2) 0 0 (j 2)) (fun a => match a with | ⟨0, _⟩ => rfl | ⟨1, _⟩ => rfl | ⟨2, _⟩ => rfl)).trans
    (broadcastInDim_apply _ _ _ _ _ (fun a => match a with | ⟨0, _⟩ => rfl))

section InRange

variable (x : IVec S16384x200 32) (hx : ∀ i, (x i).toNat < 4)
include hx

/-- An index in range is used as it is. -/
theorem wrapped_eq : wrapped x = x := by
  funext i
  show Scalar.select (IntOp.cmpi .slt (x i) 0#32) (IntOp.addi (x i) 4#32) (x i) = x i
  rcases small_cases (x i) (hx i) with h | h | h | h <;> rw [h] <;> rfl

/-- The lookup's word for the result place `(r, c)`. -/
theorem starts_eq (j : S16384x200x1.Idx) : starts x j = x (ix2 (n0 := 16384) (n1 := 200) (j 0) (j 1)) := by
  unfold starts
  rw [wrapped_eq x hx]
  refine broadcastInDim_apply _ _ _ _ _ fun a => ?_
  match a with
  | ⟨0, _⟩ => rfl
  | ⟨1, _⟩ => rfl

/-- Every index is in range. -/
theorem inside_eq (j : S16384x200.Idx) : inside x j = 1#1 := by
  refine Host.reduce_andi_one _ _ _ _ _ rfl fun i => ?_
  show IntOp.andi (IntOp.cmpi .sge (starts x i) 0#32) (IntOp.cmpi .sle (starts x i) 3#32) = 1#1
  rw [starts_eq x hx]
  rcases small_cases _ (hx (ix2 (n0 := 16384) (n1 := 200) (i 0) (i 1))) with h | h | h | h <;> rw [h] <;> rfl

/-- The lookup reads the row the index names. -/
theorem gather_eq (E : FVec F S4x2 .f32) (j : S16384x200x2.Idx) :
    Host.gather gather_S4x2_S16384x200x1_S16384x200x2_2_0_n_n_0_2_12 E (starts x) j
      = E (ix2 (row (x (ix2 (n0 := 16384) (n1 := 200) (j 0) (j 1)))) (n1 := 2) (j 2)) := by
  unfold Host.gather
  refine congrArg E (funext fun a => Fin.ext ?_)
  let D := gather_S4x2_S16384x200x1_S16384x200x2_2_0_n_n_0_2_12
  show D.start j (starts x) a + D.batchCoord j a + D.offCoord j a = _
  rw [GatherDims.batchCoord_eq_zero _ _ _ List.not_mem_nil]
  match a with
  | ⟨0, _⟩ =>
    show D.start j (starts x) 0 + 0 + D.offCoord j 0 = (x (ix2 (n0 := 16384) (n1 := 200) (j 0) (j 1))).toNat % 4
    rw [GatherDims.offCoord_eq_zero _ _ _ (fun h => ((GatherDims.mem_sKept _ _).mp h).1 (List.mem_singleton.mpr rfl))]
    unfold GatherDims.start
    rw [dif_pos (show (0 : Fin 2) ∈ D.startIndexMap from List.mem_singleton.mpr rfl)]
    have hsi : D.siIdx j ⟨List.idxOf (0 : Fin 2) D.startIndexMap, List.idxOf_lt_length_iff.2 (List.mem_singleton.mpr rfl)⟩
        = ix3 (n0 := 16384) (n1 := 200) (n2 := 1) (j 0) (j 1) 0 := by
      funext b; refine Fin.ext ?_
      match b with
      | ⟨0, _⟩ => rfl
      | ⟨1, _⟩ => rfl
      | ⟨2, _⟩ => rfl
    rw [hsi, starts_eq x hx]
    show min (x (ix2 (n0 := 16384) (n1 := 200) (j 0) (j 1))).toInt.toNat 3 + 0 + 0 = (x (ix2 (n0 := 16384) (n1 := 200) (j 0) (j 1))).toNat % 4
    rcases small_cases _ (hx (ix2 (n0 := 16384) (n1 := 200) (j 0) (j 1))) with h | h | h | h <;> rw [h] <;> rfl
  | ⟨1, _⟩ =>
    show D.start j (starts x) 1 + 0 + D.offCoord j 1 = (j 2).val
    unfold GatherDims.start
    rw [dif_neg (show ¬(1 : Fin 2) ∈ D.startIndexMap by decide)]
    simp only [Nat.zero_add]
    rfl

/-- So the rows looked up are the table's. -/
theorem taken_eq (E : FVec F S4x2 .f32) (j : S16384x200x2.Idx) :
    taken x E j = E (ix2 (row (x (ix2 (n0 := 16384) (n1 := 200) (j 0) (j 1)))) (n1 := 2) (j 2)) := by
  rw [← gather_eq x hx E j]
  have hm : broadcastInDim S16384x200x2 ![0, 1] bcast_S16384x200_S16384x200x2_0_1 (inside x) j = 1#1 :=
    (broadcastInDim_apply _ _ _ j (ix2 (n0 := 16384) (n1 := 200) (j 0) (j 1)) (fun a => match a with | ⟨0, _⟩ => rfl | ⟨1, _⟩ => rfl)).trans (inside_eq x hx _)
  unfold taken
  rw [select_apply, hm, select_one]

/-- The reference computes the specified result, in exact arithmetic. -/
theorem value_eq (E : FVec Ideal S4x2 .f32) (W : FVec Ideal S2x2 .f32) (b : FVec Ideal S2 .f32) : value x E W b = spec x E W b := by
  funext j
  unfold value
  rw [addf_apply, product_eq, bias_eq, taken_eq x hx, taken_eq x hx]
  rfl

end InRange

/-- The reference has no semaphore, so it leaves every one at zero. -/
theorem frame (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run Cert.ReferenceIdeal.defs _ _).mono (fun r h => ⟨fun c => (h c).2, sem_eq_zero_of_no_sems rfl r.2⟩) (Value.run m ρ)

/-- From in-range indices the reference ends with the specified result and its arguments unchanged. -/
theorem run (m : (ℓ : Loc nD τ sig) → Buf (Elt Ideal) ℓ) (ρ : Dev nD → PrngReg)
    (hx : ∀ (c : Dev nD) (i : S16384x200.Idx), ((m ((c.tc : Thread nD τ).loc main_arg0) : IVec S16384x200 32) i).toNat < 4) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v5)
        = spec (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run Cert.ReferenceIdeal.defs _ _).mono (fun r h c => ⟨(h c).1.trans (value_eq _ (hx c) _ _ _), (h c).2⟩) (Value.run m ρ)

end Cert.Proof.Reference

end
-- ==== Proof.lean ====
/-
  The claim about the lookup kernel, put together from its parts:

  * `Proof.Lookup`: looked-up entries and interleaved arrays, over plain functions;
  * `Proof.KTile`: what one vector subcore does;
  * `Proof.KLaunch`: the whole program, its 32 subcores together;
  * `Proof.Spec`: the result both programs compute;
  * `Proof.KValue`: the kernel computes it;
  * `Proof.RValue`: the reference computes it.

  The kernel's program read in exact arithmetic is the same text, so one proof, over any arithmetic, serves
  for both readings.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_vocab
public import proofs.«01_k».proof.Proof.KValue
public import proofs.«01_k».proof.Proof.RValue

@[expose] public section

noncomputable section

namespace Cert.Proof

open Idealize.ShloMosaic Idealize.SL.Sem

/-- The kernel's shape facts. -/
local instance : Cert.Kernel.Facts := Cert.Kernel.Gen.facts
/-- The same facts for its reading in exact arithmetic. -/
local instance : Cert.KernelIdeal.Facts := Cert.KernelIdeal.Gen.facts
/-- The reference's shape facts. -/
local instance : Cert.ReferenceIdeal.Facts := Cert.ReferenceIdeal.Gen.facts
/-- The precondition's shape facts. -/
local instance : Cert.Pre_in_vocab.Facts := Cert.Pre_in_vocab.Gen.facts

/-- The kernel in exact arithmetic, from in-range indices. -/
theorem ideal_run (m : (ℓ : Loc Cert.KernelIdeal.nD Cert.KernelIdeal.τ Cert.KernelIdeal.sig) → Buf (Elt Ideal) ℓ) (g : Dev Cert.KernelIdeal.nD → PrngReg)
    (h : Cert.Pre_KernelIdeal m) :
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_v6)
        = Spec.spec (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  Kernel.run (F := Ideal) m g fun c => Spec.in_range _ _ _ _ (h c)

/-- The kernel's frame. -/
theorem kernel_frame : Cert.quiescent_Kernel := fun m g h =>
  (θ_run Cert.Kernel.defs _ _).mono (fun _ hr => ⟨fun c => (hr.1 c).2, hr.2⟩) (Kernel.run (F := Bits) m g fun c => Spec.in_range _ _ _ _ (h c))

/-- The kernel's frame in exact arithmetic. -/
theorem ideal_frame : Cert.quiescent_KernelIdeal := fun m g h =>
  (θ_run Cert.KernelIdeal.defs _ _).mono (fun _ hr => ⟨fun c => (hr.1 c).2, hr.2⟩) (ideal_run m g h)

/-- The kernel and the reference end with equal results. -/
theorem equal : Cert.algebraic_KernelIdeal_ReferenceIdeal := fun m g m' g' h ha => by
  refine ⟨fun c => Spec.spec (F := Ideal) (m (c.tc.loc Cert.KernelIdeal.main_arg0)) (m (c.tc.loc Cert.KernelIdeal.main_arg1))
    (m (c.tc.loc Cert.KernelIdeal.main_arg2)) (m (c.tc.loc Cert.KernelIdeal.main_arg3)), ?_, ?_⟩
  · exact (θ_run Cert.KernelIdeal.defs _ _).mono (fun _ hr => hr.1) (ideal_run m g h)
  · refine (θ_run Cert.ReferenceIdeal.defs _ _).mono (fun r hr c => ⟨(hr c).1.trans ?_, (hr c).2⟩)
      (Reference.run m' g' fun c i => ?_)
    · rw [(ha c).1]
      exact Spec.in_range _ _ _ _ (h c) i
    · rw [(ha c).1, (ha c).2.1, (ha c).2.2.1, (ha c).2.2.2]

/-- Every claim. -/
theorem claim : Cert.Claim :=
  ⟨Cert.Kernel.Gen.facts, Cert.KernelIdeal.Gen.facts, Cert.ReferenceIdeal.Gen.facts, Cert.Pre_in_vocab.Gen.facts,
    kernel_frame, ideal_frame, fun m g _ => Reference.frame m g, fun m g _ => Reference.frame m g, trivial, equal⟩

end Cert.Proof

end
